-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S16384x256 : Shape := ⟨2, ![16384, 256]⟩
abbrev S2x1048576 : Shape := ⟨2, ![2, 1048576]⟩
abbrev S1048576 : Shape := ⟨1, ![1048576]⟩
abbrev S256 : Shape := ⟨1, ![256]⟩
abbrev S_ : Shape := ⟨0, ![]⟩

class Facts : Prop where
  bcast_S_S2x1048576 : S_.BroadcastsInDim S2x1048576 (![] : Fin 0 → Fin S2x1048576.rank)
  reducesTo_S2x1048576_S_d0_1 : S2x1048576.ReducesTo [0, 1] S_
  h_S_ : 0 < S_.numel

variable [Facts]

def fn {F : FTy → Type} [FloatOps F] (main_arg0 : FVec F S16384x256 .f32) (main_arg1 : IVec S2x1048576 32) (main_arg2 : FVec F S1048576 .f32) (main_arg3 : FVec F S256 .f32) : IVec S_ 1 :=
  let main_c : IVec S_ 32 := constantI S_ 32 0#32
  let main_v0 : IVec S2x1048576 32 := broadcastInDim S2x1048576 ![] bcast_S_S2x1048576 main_c
  let main_v1 : IVec S2x1048576 1 := cmpi .sge main_arg1 main_v0
  let main_c_0 : IVec S_ 1 := constantI S_ 1 1#1
  let main_v2 : IVec S_ 1 := (fun x v => Host.reduce IntOp.andi x v reducesTo_S2x1048576_S_d0_1 h_S_) main_v1 main_c_0
  let main_c_1 : IVec S_ 32 := constantI S_ 32 256#32
  let main_v3 : IVec S2x1048576 32 := broadcastInDim S2x1048576 ![] bcast_S_S2x1048576 main_c_1
  let main_v4 : IVec S2x1048576 1 := cmpi .slt main_arg1 main_v3
  let main_c_2 : IVec S_ 1 := constantI S_ 1 1#1
  let main_v5 : IVec S_ 1 := (fun x v => Host.reduce IntOp.andi x v reducesTo_S2x1048576_S_d0_1 h_S_) main_v4 main_c_2
  let main_v6 : IVec S_ 1 := andi main_v2 main_v5
  main_v6
-- ==== Pre_in_range_finite.lean ====
abbrev S16384x256 : Shape := ⟨2, ![16384, 256]⟩
abbrev S2x1048576 : Shape := ⟨2, ![2, 1048576]⟩
abbrev S1048576 : Shape := ⟨1, ![1048576]⟩
abbrev S256 : Shape := ⟨1, ![256]⟩
abbrev S_ : Shape := ⟨0, ![]⟩

class Facts : Prop where
  bcast_S_S2x1048576 : S_.BroadcastsInDim S2x1048576 (![] : Fin 0 → Fin S2x1048576.rank)
  reducesTo_S2x1048576_S_d0_1 : S2x1048576.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v11 : IVec S_ 1) (main_v15 : IVec S_ 1) : IVec S_ 1 :=
  let main_v16 : IVec S_ 1 := andi main_v11 main_v15
  main_v16

def fn {F : FTy → Type} [FloatOps F] (main_arg0 : FVec F S16384x256 .f32) (main_arg1 : IVec S2x1048576 32) (main_arg2 : FVec F S1048576 .f32) (main_arg3 : FVec F S256 .f32) : IVec S_ 1 :=
  let main_c : IVec S_ 32 := constantI S_ 32 0#32
  let main_v0 : IVec S2x1048576 32 := broadcastInDim S2x1048576 ![] bcast_S_S2x1048576 main_c
  let main_v1 : IVec S2x1048576 1 := cmpi .sge main_arg1 main_v0
  let main_c_0 : IVec S_ 1 := constantI S_ 1 1#1
  let main_v2 : IVec S_ 1 := (fun x v => Host.reduce IntOp.andi x v reducesTo_S2x1048576_S_d0_1 h_S_) main_v1 main_c_0
  let main_c_1 : IVec S_ 32 := constantI S_ 32 256#32
  let main_v3 : IVec S2x1048576 32 := broadcastInDim S2x1048576 ![] bcast_S_S2x1048576 main_c_1
  let main_v4 : IVec S2x1048576 1 := cmpi .slt main_arg1 main_v3
  let main_c_2 : IVec S_ 1 := constantI S_ 1 1#1
  let main_v5 : IVec S_ 1 := (fun x v => Host.reduce IntOp.andi x v reducesTo_S2x1048576_S_d0_1 h_S_) main_v4 main_c_2
  let main_v6 : IVec S_ 1 := andi main_v2 main_v5
  let main_v7 : FVec F S16384x256 .f32 := Host.absf main_arg0
  let main_cst : FVec F S_ .f32 := constant S_ .f32 0x7F800000#32
  let main_v8 : FVec F S16384x256 .f32 := broadcastInDim S16384x256 ![] bcast_S_S16384x256 main_cst
  let main_v9 : IVec S16384x256 1 := cmpf .olt main_v7 main_v8
  let main_c_3 : IVec S_ 1 := constantI S_ 1 1#1
  let main_v10 : IVec S_ 1 := (fun x v => Host.reduce IntOp.andi x v reducesTo_S16384x256_S_d0_1 h_S_) main_v9 main_c_3
  let main_v11 : IVec S_ 1 := andi main_v6 main_v10
  let main_v12 : FVec F S1048576 .f32 := Host.absf main_arg2
  let main_cst_4 : FVec F S_ .f32 := constant S_ .f32 0x7F800000#32
  let main_v13 : FVec F S1048576 .f32 := broadcastInDim S1048576 ![] bcast_S_S1048576 main_cst_4
  let main_v14 : IVec S1048576 1 := cmpf .olt main_v12 main_v13
  let main_c_5 : IVec S_ 1 := constantI S_ 1 1#1
  let main_v15 : IVec S_ 1 := (fun x v => Host.reduce IntOp.andi x v reducesTo_S1048576_S_d0 h_S_) main_v14 main_c_5
  fn_part1 (F := F) main_v11 main_v15
-- ==== Kernel.lean ====
abbrev S16384x256 : Shape := ⟨2, ![16384, 256]⟩
abbrev S2x1048576 : Shape := ⟨2, ![2, 1048576]⟩
abbrev S1048576 : Shape := ⟨1, ![1048576]⟩
abbrev S256 : Shape := ⟨1, ![256]⟩
abbrev S32x256x256 : Shape := ⟨3, ![32, 256, 256]⟩
abbrev S256x256 : Shape := ⟨2, ![256, 256]⟩
abbrev S2x2x4096 : Shape := ⟨3, ![2, 2, 4096]⟩
abbrev S2x4096 : Shape := ⟨2, ![2, 4096]⟩
abbrev S2 : Shape := ⟨1, ![2]⟩
abbrev S1x2x4096 : Shape := ⟨3, ![1, 2, 4096]⟩
abbrev S1 : Shape := ⟨1, ![1]⟩
abbrev S_ : Shape := ⟨0, ![]⟩
abbrev S1x4096 : Shape := ⟨2, ![1, 4096]⟩
abbrev S4096 : Shape := ⟨1, ![4096]⟩
abbrev S16 : Shape := ⟨1, ![16]⟩
abbrev S1x16 : Shape := ⟨2, ![1, 16]⟩
abbrev S1x1x16 : Shape := ⟨3, ![1, 1, 16]⟩
abbrev S1x256x256 : Shape := ⟨3, ![1, 256, 256]⟩
abbrev S1x256 : Shape := ⟨2, ![1, 256]⟩
abbrev S256x256x256 : Shape := ⟨3, ![256, 256, 256]⟩
abbrev S16x256x256 : Shape := ⟨3, ![16, 256, 256]⟩

abbrev nBuf : Table → Nat
  | .hbm => 8
  | .local .tc .vmem => 6
  | .local .scVector .vmem => 3
  | _ => 0

abbrev bufTy : (tb : Table) → Fin (nBuf tb) → BufTy
  | .hbm, ⟨0, _⟩ => ⟨S16384x256, .f32⟩
  | .hbm, ⟨1, _⟩ => ⟨S2x1048576, .i32⟩
  | .hbm, ⟨2, _⟩ => ⟨S1048576, .f32⟩
  | .hbm, ⟨3, _⟩ => ⟨S256, .f32⟩
  | .hbm, ⟨4, _⟩ => ⟨S32x256x256, .f32⟩
  | .hbm, ⟨5, _⟩ => ⟨S256x256, .f32⟩
  | .hbm, ⟨6, _⟩ => ⟨S1x256, .f32⟩
  | .hbm, ⟨7, _⟩ => ⟨S256x256x256, .f32⟩
  | .local .tc .vmem, ⟨0, _⟩ => ⟨S32x256x256, .f32⟩
  | .local .tc .vmem, ⟨1, _⟩ => ⟨S256x256, .f32⟩
  | .local .tc .vmem, ⟨2, _⟩ => ⟨S1x256, .f32⟩
  | .local .tc .vmem, ⟨3, _⟩ => ⟨S16x256x256, .f32⟩
  | .local .tc .vmem, ⟨4, _⟩ => ⟨S16x256x256, .f32⟩
  | .local .tc .vmem, ⟨5, _⟩ => ⟨S256x256, .f32⟩
  | .local .scVector .vmem, ⟨0, _⟩ => ⟨S256x256, .f32⟩
  | .local .scVector .vmem, ⟨1, _⟩ => ⟨S2x2x4096, .i32⟩
  | .local .scVector .vmem, ⟨2, _⟩ => ⟨S2x4096, .f32⟩
  | _, _ => ⟨S16384x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1_scv : Ref sig .scVector := ⟨.hbm, 1, rfl⟩
abbrev main_arg2_scv : Ref sig .scVector := ⟨.hbm, 2, rfl⟩
abbrev main_v0_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg3_1 : Ref sig .tc := ⟨.vmem, 4, rfl⟩
abbrev cc1_scratch0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 5
abbrev cc1_sem1_0 : DmaSem sig := 6
abbrev cc1_sem2_0 : DmaSem sig := 7
abbrev cc1_sem3_0 : DmaSem sig := 8
abbrev cc1_sem3_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v3 : BitVec 32 := Scalar.addi v2 c0_i32
  ![0, v3.toNat]
def k0_off2 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v3 : BitVec 32 := Scalar.addi v2 c0_i32
  ![v3.toNat]
@[reducible] def k0_t1_loop : Scf.Loop 32 :=
  let c0_i32_12 : BitVec 32 := 0#32
  let c256_i32 : BitVec 32 := 256#32
  let v20 : BitVec 32 := Scalar.addi c0_i32_12 c256_i32
  let c1_i32 : BitVec 32 := 1#32
  ⟨c0_i32_12, v20, c1_i32⟩
def k0_off3 (k0_t1 : Fin k0_t1_loop.trips) : Fin 2 → Nat :=
  let c0_i32_235 : BitVec 32 := 0#32
  let c0_i32_12 : BitVec 32 := 0#32
  let c1_i32 : BitVec 32 := 1#32
  let arg10 : BitVec 32 := Scf.iv c0_i32_12 c1_i32 k0_t1
  let c1_i32_234 : BitVec 32 := 1#32
  let v284 : BitVec 32 := Scalar.muli arg10 c1_i32_234
  let v285 : BitVec 32 := Scalar.addi c0_i32_235 v284
  let v287 : Index := Scalar.indexCast v285
  let c0 : Index := 0#32
  ![v287.toNat, 0]
def k0_off4 (k0_t1 : Fin k0_t1_loop.trips) : Fin 2 → Nat :=
  let c0_i32_235 : BitVec 32 := 0#32
  let c0_i32_12 : BitVec 32 := 0#32
  let c1_i32 : BitVec 32 := 1#32
  let arg10 : BitVec 32 := Scf.iv c0_i32_12 c1_i32 k0_t1
  let c1_i32_234 : BitVec 32 := 1#32
  let v284 : BitVec 32 := Scalar.muli arg10 c1_i32_234
  let v285 : BitVec 32 := Scalar.addi c0_i32_235 v284
  let v290 : Index := Scalar.indexCast v285
  let c16 : Index := 16#32
  ![v290.toNat, 16]
def k0_off5 (k0_t1 : Fin k0_t1_loop.trips) : Fin 2 → Nat :=
  let c0_i32_235 : BitVec 32 := 0#32
  let c0_i32_12 : BitVec 32 := 0#32
  let c1_i32 : BitVec 32 := 1#32
  let arg10 : BitVec 32 := Scf.iv c0_i32_12 c1_i32 k0_t1
  let c1_i32_234 : BitVec 32 := 1#32
  let v284 : BitVec 32 := Scalar.muli arg10 c1_i32_234
  let v285 : BitVec 32 := Scalar.addi c0_i32_235 v284
  let v293 : Index := Scalar.indexCast v285
  let c32 : Index := 32#32
  ![v293.toNat, 32]
def k0_off6 (k0_t1 : Fin k0_t1_loop.trips) : Fin 2 → Nat :=
  let c0_i32_235 : BitVec 32 := 0#32
  let c0_i32_12 : BitVec 32 := 0#32
  let c1_i32 : BitVec 32 := 1#32
  let arg10 : BitVec 32 := Scf.iv c0_i32_12 c1_i32 k0_t1
  let c1_i32_234 : BitVec 32 := 1#32
  let v284 : BitVec 32 := Scalar.muli arg10 c1_i32_234
  let v285 : BitVec 32 := Scalar.addi c0_i32_235 v284
  let v296 : Index := Scalar.indexCast v285
  let c48 : Index := 48#32
  ![v296.toNat, 48]
def k0_off7 (k0_t1 : Fin k0_t1_loop.trips) : Fin 2 → Nat :=
  let c0_i32_235 : BitVec 32 := 0#32
  let c0_i32_12 : BitVec 32 := 0#32
  let c1_i32 : BitVec 32 := 1#32
  let arg10 : BitVec 32 := Scf.iv c0_i32_12 c1_i32 k0_t1
  let c1_i32_234 : BitVec 32 := 1#32
  let v284 : BitVec 32 := Scalar.muli arg10 c1_i32_234
  let v285 : BitVec 32 := Scalar.addi c0_i32_235 v284
  let v299 : Index := Scalar.indexCast v285
  let c64 : Index := 64#32
  ![v299.toNat, 64]
def k0_off8 (k0_t1 : Fin k0_t1_loop.trips) : Fin 2 → Nat :=
  let c0_i32_235 : BitVec 32 := 0#32
  let c0_i32_12 : BitVec 32 := 0#32
  let c1_i32 : BitVec 32 := 1#32
  let arg10 : BitVec 32 := Scf.iv c0_i32_12 c1_i32 k0_t1
  let c1_i32_234 : BitVec 32 := 1#32
  let v284 : BitVec 32 := Scalar.muli arg10 c1_i32_234
  let v285 : BitVec 32 := Scalar.addi c0_i32_235 v284
  let v302 : Index := Scalar.indexCast v285
  let c80 : Index := 80#32
  ![v302.toNat, 80]
def k0_off9 (k0_t1 : Fin k0_t1_loop.trips) : Fin 2 → Nat :=
  let c0_i32_235 : BitVec 32 := 0#32
  let c0_i32_12 : BitVec 32 := 0#32
  let c1_i32 : BitVec 32 := 1#32
  let arg10 : BitVec 32 := Scf.iv c0_i32_12 c1_i32 k0_t1
  let c1_i32_234 : BitVec 32 := 1#32
  let v284 : BitVec 32 := Scalar.muli arg10 c1_i32_234
  let v285 : BitVec 32 := Scalar.addi c0_i32_235 v284
  let v305 : Index := Scalar.indexCast v285
  let c96 : Index := 96#32
  ![v305.toNat, 96]
def k0_off10 (k0_t1 : Fin k0_t1_loop.trips) : Fin 2 → Nat :=
  let c0_i32_235 : BitVec 32 := 0#32
  let c0_i32_12 : BitVec 32 := 0#32
  let c1_i32 : BitVec 32 := 1#32
  let arg10 : BitVec 32 := Scf.iv c0_i32_12 c1_i32 k0_t1
  let c1_i32_234 : BitVec 32 := 1#32
  let v284 : BitVec 32 := Scalar.muli arg10 c1_i32_234
  let v285 : BitVec 32 := Scalar.addi c0_i32_235 v284
  let v308 : Index := Scalar.indexCast v285
  let c112 : Index := 112#32
  ![v308.toNat, 112]
def k0_off11 (k0_t1 : Fin k0_t1_loop.trips) : Fin 2 → Nat :=
  let c0_i32_235 : BitVec 32 := 0#32
  let c0_i32_12 : BitVec 32 := 0#32
  let c1_i32 : BitVec 32 := 1#32
  let arg10 : BitVec 32 := Scf.iv c0_i32_12 c1_i32 k0_t1
  let c1_i32_234 : BitVec 32 := 1#32
  let v284 : BitVec 32 := Scalar.muli arg10 c1_i32_234
  let v285 : BitVec 32 := Scalar.addi c0_i32_235 v284
  let v311 : Index := Scalar.indexCast v285
  let c128 : Index := 128#32
  ![v311.toNat, 128]
def k0_off12 (k0_t1 : Fin k0_t1_loop.trips) : Fin 2 → Nat :=
  let c0_i32_235 : BitVec 32 := 0#32
  let c0_i32_12 : BitVec 32 := 0#32
  let c1_i32 : BitVec 32 := 1#32
  let arg10 : BitVec 32 := Scf.iv c0_i32_12 c1_i32 k0_t1
  let c1_i32_234 : BitVec 32 := 1#32
  let v284 : BitVec 32 := Scalar.muli arg10 c1_i32_234
  let v285 : BitVec 32 := Scalar.addi c0_i32_235 v284
  let v314 : Index := Scalar.indexCast v285
  let c144 : Index := 144#32
  ![v314.toNat, 144]
def k0_off13 (k0_t1 : Fin k0_t1_loop.trips) : Fin 2 → Nat :=
  let c0_i32_235 : BitVec 32 := 0#32
  let c0_i32_12 : BitVec 32 := 0#32
  let c1_i32 : BitVec 32 := 1#32
  let arg10 : BitVec 32 := Scf.iv c0_i32_12 c1_i32 k0_t1
  let c1_i32_234 : BitVec 32 := 1#32
  let v284 : BitVec 32 := Scalar.muli arg10 c1_i32_234
  let v285 : BitVec 32 := Scalar.addi c0_i32_235 v284
  let v317 : Index := Scalar.indexCast v285
  let c160 : Index := 160#32
  ![v317.toNat, 160]
def k0_off14 (k0_t1 : Fin k0_t1_loop.trips) : Fin 2 → Nat :=
  let c0_i32_235 : BitVec 32 := 0#32
  let c0_i32_12 : BitVec 32 := 0#32
  let c1_i32 : BitVec 32 := 1#32
  let arg10 : BitVec 32 := Scf.iv c0_i32_12 c1_i32 k0_t1
  let c1_i32_234 : BitVec 32 := 1#32
  let v284 : BitVec 32 := Scalar.muli arg10 c1_i32_234
  let v285 : BitVec 32 := Scalar.addi c0_i32_235 v284
  let v320 : Index := Scalar.indexCast v285
  let c176 : Index := 176#32
  ![v320.toNat, 176]
def k0_off15 (k0_t1 : Fin k0_t1_loop.trips) : Fin 2 → Nat :=
  let c0_i32_235 : BitVec 32 := 0#32
  let c0_i32_12 : BitVec 32 := 0#32
  let c1_i32 : BitVec 32 := 1#32
  let arg10 : BitVec 32 := Scf.iv c0_i32_12 c1_i32 k0_t1
  let c1_i32_234 : BitVec 32 := 1#32
  let v284 : BitVec 32 := Scalar.muli arg10 c1_i32_234
  let v285 : BitVec 32 := Scalar.addi c0_i32_235 v284
  let v323 : Index := Scalar.indexCast v285
  let c192 : Index := 192#32
  ![v323.toNat, 192]
def k0_off16 (k0_t1 : Fin k0_t1_loop.trips) : Fin 2 → Nat :=
  let c0_i32_235 : BitVec 32 := 0#32
  let c0_i32_12 : BitVec 32 := 0#32
  let c1_i32 : BitVec 32 := 1#32
  let arg10 : BitVec 32 := Scf.iv c0_i32_12 c1_i32 k0_t1
  let c1_i32_234 : BitVec 32 := 1#32
  let v284 : BitVec 32 := Scalar.muli arg10 c1_i32_234
  let v285 : BitVec 32 := Scalar.addi c0_i32_235 v284
  let v326 : Index := Scalar.indexCast v285
  let c208 : Index := 208#32
  ![v326.toNat, 208]
def k0_off17 (k0_t1 : Fin k0_t1_loop.trips) : Fin 2 → Nat :=
  let c0_i32_235 : BitVec 32 := 0#32
  let c0_i32_12 : BitVec 32 := 0#32
  let c1_i32 : BitVec 32 := 1#32
  let arg10 : BitVec 32 := Scf.iv c0_i32_12 c1_i32 k0_t1
  let c1_i32_234 : BitVec 32 := 1#32
  let v284 : BitVec 32 := Scalar.muli arg10 c1_i32_234
  let v285 : BitVec 32 := Scalar.addi c0_i32_235 v284
  let v329 : Index := Scalar.indexCast v285
  let c224 : Index := 224#32
  ![v329.toNat, 224]
def k0_off18 (k0_t1 : Fin k0_t1_loop.trips) : Fin 2 → Nat :=
  let c0_i32_235 : BitVec 32 := 0#32
  let c0_i32_12 : BitVec 32 := 0#32
  let c1_i32 : BitVec 32 := 1#32
  let arg10 : BitVec 32 := Scf.iv c0_i32_12 c1_i32 k0_t1
  let c1_i32_234 : BitVec 32 := 1#32
  let v284 : BitVec 32 := Scalar.muli arg10 c1_i32_234
  let v285 : BitVec 32 := Scalar.addi c0_i32_235 v284
  let v332 : Index := Scalar.indexCast v285
  let c240 : Index := 240#32
  ![v332.toNat, 240]
@[reducible] def k0_t2_loop : Scf.Loop 32 :=
  let c0_i32_39 : BitVec 32 := 0#32
  let c256_i32_40 : BitVec 32 := 256#32
  let v55 : BitVec 32 := Scalar.addi c0_i32_39 c256_i32_40
  let c1_i32_41 : BitVec 32 := 1#32
  ⟨c0_i32_39, v55, c1_i32_41⟩
def k0_off19 (k0_t2 : Fin k0_t2_loop.trips) : Fin 3 → Nat :=
  let c0_i32_236 : BitVec 32 := 0#32
  let v287 : Index := Scalar.indexCast c0_i32_236
  let c0_i32_237 : BitVec 32 := 0#32
  let v288 : Index := Scalar.indexCast c0_i32_237
  let c0_i32_235 : BitVec 32 := 0#32
  let c0_i32_39 : BitVec 32 := 0#32
  let c1_i32_41 : BitVec 32 := 1#32
  let arg10 : BitVec 32 := Scf.iv c0_i32_39 c1_i32_41 k0_t2
  let c1_i32_234 : BitVec 32 := 1#32
  let v284 : BitVec 32 := Scalar.muli arg10 c1_i32_234
  let v285 : BitVec 32 := Scalar.addi c0_i32_235 v284
  let c16_i32 : BitVec 32 := 16#32
  let v286 : BitVec 32 := Scalar.muli v285 c16_i32
  let v289 : Index := Scalar.indexCast v286
  ![0, 0, v289.toNat]
def k0_off20 (k0_t2 : Fin k0_t2_loop.trips) : Fin 3 → Nat :=
  let c0_i32_239 : BitVec 32 := 0#32
  let v292 : Index := Scalar.indexCast c0_i32_239
  let c1_i32_240 : BitVec 32 := 1#32
  let v293 : Index := Scalar.indexCast c1_i32_240
  let c0_i32_235 : BitVec 32 := 0#32
  let c0_i32_39 : BitVec 32 := 0#32
  let c1_i32_41 : BitVec 32 := 1#32
  let arg10 : BitVec 32 := Scf.iv c0_i32_39 c1_i32_41 k0_t2
  let c1_i32_234 : BitVec 32 := 1#32
  let v284 : BitVec 32 := Scalar.muli arg10 c1_i32_234
  let v285 : BitVec 32 := Scalar.addi c0_i32_235 v284
  let c16_i32_238 : BitVec 32 := 16#32
  let v291 : BitVec 32 := Scalar.muli v285 c16_i32_238
  let v294 : Index := Scalar.indexCast v291
  ![0, 1, v294.toNat]
def k0_off21 (k0_t2 : Fin k0_t2_loop.trips) : Fin 2 → Nat :=
  let c0_i32_242 : BitVec 32 := 0#32
  let v297 : Index := Scalar.indexCast c0_i32_242
  let c0_i32_235 : BitVec 32 := 0#32
  let c0_i32_39 : BitVec 32 := 0#32
  let c1_i32_41 : BitVec 32 := 1#32
  let arg10 : BitVec 32 := Scf.iv c0_i32_39 c1_i32_41 k0_t2
  let c1_i32_234 : BitVec 32 := 1#32
  let v284 : BitVec 32 := Scalar.muli arg10 c1_i32_234
  let v285 : BitVec 32 := Scalar.addi c0_i32_235 v284
  let c16_i32_241 : BitVec 32 := 16#32
  let v296 : BitVec 32 := Scalar.muli v285 c16_i32_241
  let v298 : Index := Scalar.indexCast v296
  ![0, v298.toNat]

def k0_chk1 (v290 : IVec S16 32) (v295 : IVec S16 32) : Prop :=
  (∀ a x, ((![v290, v295] : Fin 2 → IVec S16 32) a x).toNat < S256x256.size a)
theorem k0_idx1_inb : ∀ (v290 : IVec S16 32) (v295 : IVec S16 32) (k0_hw1 : k0_chk1 v290 v295), ∀ a x, ((![v290, v295] : Fin 2 → IVec S16 32) a x).toNat < S256x256.size a := fun v290 v295 k0_hw1 => k0_hw1
@[reducible] def k0_t3_loop : Scf.Loop 32 :=
  let c0_i32_68 : BitVec 32 := 0#32
  let c256_i32_69 : BitVec 32 := 256#32
  let v90 : BitVec 32 := Scalar.addi c0_i32_68 c256_i32_69
  let c1_i32_70 : BitVec 32 := 1#32
  ⟨c0_i32_68, v90, c1_i32_70⟩
def k0_off22 (k0_t3 : Fin k0_t3_loop.trips) : Fin 3 → Nat :=
  let c1_i32_236 : BitVec 32 := 1#32
  let v287 : Index := Scalar.indexCast c1_i32_236
  let c0_i32_237 : BitVec 32 := 0#32
  let v288 : Index := Scalar.indexCast c0_i32_237
  let c0_i32_235 : BitVec 32 := 0#32
  let c0_i32_68 : BitVec 32 := 0#32
  let c1_i32_70 : BitVec 32 := 1#32
  let arg10 : BitVec 32 := Scf.iv c0_i32_68 c1_i32_70 k0_t3
  let c1_i32_234 : BitVec 32 := 1#32
  let v284 : BitVec 32 := Scalar.muli arg10 c1_i32_234
  let v285 : BitVec 32 := Scalar.addi c0_i32_235 v284
  let c16_i32 : BitVec 32 := 16#32
  let v286 : BitVec 32 := Scalar.muli v285 c16_i32
  let v289 : Index := Scalar.indexCast v286
  ![1, 0, v289.toNat]
def k0_off23 (k0_t3 : Fin k0_t3_loop.trips) : Fin 3 → Nat :=
  let c1_i32_239 : BitVec 32 := 1#32
  let v292 : Index := Scalar.indexCast c1_i32_239
  let c1_i32_240 : BitVec 32 := 1#32
  let v293 : Index := Scalar.indexCast c1_i32_240
  let c0_i32_235 : BitVec 32 := 0#32
  let c0_i32_68 : BitVec 32 := 0#32
  let c1_i32_70 : BitVec 32 := 1#32
  let arg10 : BitVec 32 := Scf.iv c0_i32_68 c1_i32_70 k0_t3
  let c1_i32_234 : BitVec 32 := 1#32
  let v284 : BitVec 32 := Scalar.muli arg10 c1_i32_234
  let v285 : BitVec 32 := Scalar.addi c0_i32_235 v284
  let c16_i32_238 : BitVec 32 := 16#32
  let v291 : BitVec 32 := Scalar.muli v285 c16_i32_238
  let v294 : Index := Scalar.indexCast v291
  ![1, 1, v294.toNat]
def k0_off24 (k0_t3 : Fin k0_t3_loop.trips) : Fin 2 → Nat :=
  let c1_i32_242 : BitVec 32 := 1#32
  let v297 : Index := Scalar.indexCast c1_i32_242
  let c0_i32_235 : BitVec 32 := 0#32
  let c0_i32_68 : BitVec 32 := 0#32
  let c1_i32_70 : BitVec 32 := 1#32
  let arg10 : BitVec 32 := Scf.iv c0_i32_68 c1_i32_70 k0_t3
  let c1_i32_234 : BitVec 32 := 1#32
  let v284 : BitVec 32 := Scalar.muli arg10 c1_i32_234
  let v285 : BitVec 32 := Scalar.addi c0_i32_235 v284
  let c16_i32_241 : BitVec 32 := 16#32
  let v296 : BitVec 32 := Scalar.muli v285 c16_i32_241
  let v298 : Index := Scalar.indexCast v296
  ![1, v298.toNat]

def k0_chk2 (v290 : IVec S16 32) (v295 : IVec S16 32) : Prop :=
  (∀ a x, ((![v290, v295] : Fin 2 → IVec S16 32) a x).toNat < S256x256.size a)
theorem k0_idx2_inb : ∀ (v290 : IVec S16 32) (v295 : IVec S16 32) (k0_hw2 : k0_chk2 v290 v295), ∀ a x, ((![v290, v295] : Fin 2 → IVec S16 32) a x).toNat < S256x256.size a := fun v290 v295 k0_hw2 => k0_hw2
@[reducible] def k0_t4_loop : Scf.Loop 32 :=
  let c0_i32_97 : BitVec 32 := 0#32
  let c256_i32_98 : BitVec 32 := 256#32
  let v125 : BitVec 32 := Scalar.addi c0_i32_97 c256_i32_98
  let c1_i32_99 : BitVec 32 := 1#32
  ⟨c0_i32_97, v125, c1_i32_99⟩
def k0_off25 (k0_t4 : Fin k0_t4_loop.trips) : Fin 3 → Nat :=
  let c0_i32_236 : BitVec 32 := 0#32
  let v287 : Index := Scalar.indexCast c0_i32_236
  let c0_i32_237 : BitVec 32 := 0#32
  let v288 : Index := Scalar.indexCast c0_i32_237
  let c0_i32_235 : BitVec 32 := 0#32
  let c0_i32_97 : BitVec 32 := 0#32
  let c1_i32_99 : BitVec 32 := 1#32
  let arg10 : BitVec 32 := Scf.iv c0_i32_97 c1_i32_99 k0_t4
  let c1_i32_234 : BitVec 32 := 1#32
  let v284 : BitVec 32 := Scalar.muli arg10 c1_i32_234
  let v285 : BitVec 32 := Scalar.addi c0_i32_235 v284
  let c16_i32 : BitVec 32 := 16#32
  let v286 : BitVec 32 := Scalar.muli v285 c16_i32
  let v289 : Index := Scalar.indexCast v286
  ![0, 0, v289.toNat]
def k0_off26 (k0_t4 : Fin k0_t4_loop.trips) : Fin 3 → Nat :=
  let c0_i32_239 : BitVec 32 := 0#32
  let v292 : Index := Scalar.indexCast c0_i32_239
  let c1_i32_240 : BitVec 32 := 1#32
  let v293 : Index := Scalar.indexCast c1_i32_240
  let c0_i32_235 : BitVec 32 := 0#32
  let c0_i32_97 : BitVec 32 := 0#32
  let c1_i32_99 : BitVec 32 := 1#32
  let arg10 : BitVec 32 := Scf.iv c0_i32_97 c1_i32_99 k0_t4
  let c1_i32_234 : BitVec 32 := 1#32
  let v284 : BitVec 32 := Scalar.muli arg10 c1_i32_234
  let v285 : BitVec 32 := Scalar.addi c0_i32_235 v284
  let c16_i32_238 : BitVec 32 := 16#32
  let v291 : BitVec 32 := Scalar.muli v285 c16_i32_238
  let v294 : Index := Scalar.indexCast v291
  ![0, 1, v294.toNat]
def k0_off27 (k0_t4 : Fin k0_t4_loop.trips) : Fin 2 → Nat :=
  let c0_i32_242 : BitVec 32 := 0#32
  let v297 : Index := Scalar.indexCast c0_i32_242
  let c0_i32_235 : BitVec 32 := 0#32
  let c0_i32_97 : BitVec 32 := 0#32
  let c1_i32_99 : BitVec 32 := 1#32
  let arg10 : BitVec 32 := Scf.iv c0_i32_97 c1_i32_99 k0_t4
  let c1_i32_234 : BitVec 32 := 1#32
  let v284 : BitVec 32 := Scalar.muli arg10 c1_i32_234
  let v285 : BitVec 32 := Scalar.addi c0_i32_235 v284
  let c16_i32_241 : BitVec 32 := 16#32
  let v296 : BitVec 32 := Scalar.muli v285 c16_i32_241
  let v298 : Index := Scalar.indexCast v296
  ![0, v298.toNat]

def k0_chk3 (v290 : IVec S16 32) (v295 : IVec S16 32) : Prop :=
  (∀ a x, ((![v290, v295] : Fin 2 → IVec S16 32) a x).toNat < S256x256.size a)
theorem k0_idx3_inb : ∀ (v290 : IVec S16 32) (v295 : IVec S16 32) (k0_hw3 : k0_chk3 v290 v295), ∀ a x, ((![v290, v295] : Fin 2 → IVec S16 32) a x).toNat < S256x256.size a := fun v290 v295 k0_hw3 => k0_hw3
@[reducible] def k0_t5_loop : Scf.Loop 32 :=
  let c0_i32_126 : BitVec 32 := 0#32
  let c256_i32_127 : BitVec 32 := 256#32
  let v160 : BitVec 32 := Scalar.addi c0_i32_126 c256_i32_127
  let c1_i32_128 : BitVec 32 := 1#32
  ⟨c0_i32_126, v160, c1_i32_128⟩
def k0_off28 (k0_t5 : Fin k0_t5_loop.trips) : Fin 3 → Nat :=
  let c1_i32_236 : BitVec 32 := 1#32
  let v287 : Index := Scalar.indexCast c1_i32_236
  let c0_i32_237 : BitVec 32 := 0#32
  let v288 : Index := Scalar.indexCast c0_i32_237
  let c0_i32_235 : BitVec 32 := 0#32
  let c0_i32_126 : BitVec 32 := 0#32
  let c1_i32_128 : BitVec 32 := 1#32
  let arg10 : BitVec 32 := Scf.iv c0_i32_126 c1_i32_128 k0_t5
  let c1_i32_234 : BitVec 32 := 1#32
  let v284 : BitVec 32 := Scalar.muli arg10 c1_i32_234
  let v285 : BitVec 32 := Scalar.addi c0_i32_235 v284
  let c16_i32 : BitVec 32 := 16#32
  let v286 : BitVec 32 := Scalar.muli v285 c16_i32
  let v289 : Index := Scalar.indexCast v286
  ![1, 0, v289.toNat]
def k0_off29 (k0_t5 : Fin k0_t5_loop.trips) : Fin 3 → Nat :=
  let c1_i32_239 : BitVec 32 := 1#32
  let v292 : Index := Scalar.indexCast c1_i32_239
  let c1_i32_240 : BitVec 32 := 1#32
  let v293 : Index := Scalar.indexCast c1_i32_240
  let c0_i32_235 : BitVec 32 := 0#32
  let c0_i32_126 : BitVec 32 := 0#32
  let c1_i32_128 : BitVec 32 := 1#32
  let arg10 : BitVec 32 := Scf.iv c0_i32_126 c1_i32_128 k0_t5
  let c1_i32_234 : BitVec 32 := 1#32
  let v284 : BitVec 32 := Scalar.muli arg10 c1_i32_234
  let v285 : BitVec 32 := Scalar.addi c0_i32_235 v284
  let c16_i32_238 : BitVec 32 := 16#32
  let v291 : BitVec 32 := Scalar.muli v285 c16_i32_238
  let v294 : Index := Scalar.indexCast v291
  ![1, 1, v294.toNat]
def k0_off30 (k0_t5 : Fin k0_t5_loop.trips) : Fin 2 → Nat :=
  let c1_i32_242 : BitVec 32 := 1#32
  let v297 : Index := Scalar.indexCast c1_i32_242
  let c0_i32_235 : BitVec 32 := 0#32
  let c0_i32_126 : BitVec 32 := 0#32
  let c1_i32_128 : BitVec 32 := 1#32
  let arg10 : BitVec 32 := Scf.iv c0_i32_126 c1_i32_128 k0_t5
  let c1_i32_234 : BitVec 32 := 1#32
  let v284 : BitVec 32 := Scalar.muli arg10 c1_i32_234
  let v285 : BitVec 32 := Scalar.addi c0_i32_235 v284
  let c16_i32_241 : BitVec 32 := 16#32
  let v296 : BitVec 32 := Scalar.muli v285 c16_i32_241
  let v298 : Index := Scalar.indexCast v296
  ![1, v298.toNat]

def k0_chk4 (v290 : IVec S16 32) (v295 : IVec S16 32) : Prop :=
  (∀ a x, ((![v290, v295] : Fin 2 → IVec S16 32) a x).toNat < S256x256.size a)
theorem k0_idx4_inb : ∀ (v290 : IVec S16 32) (v295 : IVec S16 32) (k0_hw4 : k0_chk4 v290 v295), ∀ a x, ((![v290, v295] : Fin 2 → IVec S16 32) a x).toNat < S256x256.size a := fun v290 v295 k0_hw4 => k0_hw4
@[reducible] def k0_t6_loop : Scf.Loop 32 :=
  let c0_i32_155 : BitVec 32 := 0#32
  let c256_i32_156 : BitVec 32 := 256#32
  let v195 : BitVec 32 := Scalar.addi c0_i32_155 c256_i32_156
  let c1_i32_157 : BitVec 32 := 1#32
  ⟨c0_i32_155, v195, c1_i32_157⟩
def k0_off31 (k0_t6 : Fin k0_t6_loop.trips) : Fin 3 → Nat :=
  let c0_i32_236 : BitVec 32 := 0#32
  let v287 : Index := Scalar.indexCast c0_i32_236
  let c0_i32_237 : BitVec 32 := 0#32
  let v288 : Index := Scalar.indexCast c0_i32_237
  let c0_i32_235 : BitVec 32 := 0#32
  let c0_i32_155 : BitVec 32 := 0#32
  let c1_i32_157 : BitVec 32 := 1#32
  let arg10 : BitVec 32 := Scf.iv c0_i32_155 c1_i32_157 k0_t6
  let c1_i32_234 : BitVec 32 := 1#32
  let v284 : BitVec 32 := Scalar.muli arg10 c1_i32_234
  let v285 : BitVec 32 := Scalar.addi c0_i32_235 v284
  let c16_i32 : BitVec 32 := 16#32
  let v286 : BitVec 32 := Scalar.muli v285 c16_i32
  let v289 : Index := Scalar.indexCast v286
  ![0, 0, v289.toNat]
def k0_off32 (k0_t6 : Fin k0_t6_loop.trips) : Fin 3 → Nat :=
  let c0_i32_239 : BitVec 32 := 0#32
  let v292 : Index := Scalar.indexCast c0_i32_239
  let c1_i32_240 : BitVec 32 := 1#32
  let v293 : Index := Scalar.indexCast c1_i32_240
  let c0_i32_235 : BitVec 32 := 0#32
  let c0_i32_155 : BitVec 32 := 0#32
  let c1_i32_157 : BitVec 32 := 1#32
  let arg10 : BitVec 32 := Scf.iv c0_i32_155 c1_i32_157 k0_t6
  let c1_i32_234 : BitVec 32 := 1#32
  let v284 : BitVec 32 := Scalar.muli arg10 c1_i32_234
  let v285 : BitVec 32 := Scalar.addi c0_i32_235 v284
  let c16_i32_238 : BitVec 32 := 16#32
  let v291 : BitVec 32 := Scalar.muli v285 c16_i32_238
  let v294 : Index := Scalar.indexCast v291
  ![0, 1, v294.toNat]
def k0_off33 (k0_t6 : Fin k0_t6_loop.trips) : Fin 2 → Nat :=
  let c0_i32_242 : BitVec 32 := 0#32
  let v297 : Index := Scalar.indexCast c0_i32_242
  let c0_i32_235 : BitVec 32 := 0#32
  let c0_i32_155 : BitVec 32 := 0#32
  let c1_i32_157 : BitVec 32 := 1#32
  let arg10 : BitVec 32 := Scf.iv c0_i32_155 c1_i32_157 k0_t6
  let c1_i32_234 : BitVec 32 := 1#32
  let v284 : BitVec 32 := Scalar.muli arg10 c1_i32_234
  let v285 : BitVec 32 := Scalar.addi c0_i32_235 v284
  let c16_i32_241 : BitVec 32 := 16#32
  let v296 : BitVec 32 := Scalar.muli v285 c16_i32_241
  let v298 : Index := Scalar.indexCast v296
  ![0, v298.toNat]

def k0_chk5 (v290 : IVec S16 32) (v295 : IVec S16 32) : Prop :=
  (∀ a x, ((![v290, v295] : Fin 2 → IVec S16 32) a x).toNat < S256x256.size a)
theorem k0_idx5_inb : ∀ (v290 : IVec S16 32) (v295 : IVec S16 32) (k0_hw5 : k0_chk5 v290 v295), ∀ a x, ((![v290, v295] : Fin 2 → IVec S16 32) a x).toNat < S256x256.size a := fun v290 v295 k0_hw5 => k0_hw5
@[reducible] def k0_t7_loop : Scf.Loop 32 :=
  let c0_i32_184 : BitVec 32 := 0#32
  let c256_i32_185 : BitVec 32 := 256#32
  let v230 : BitVec 32 := Scalar.addi c0_i32_184 c256_i32_185
  let c1_i32_186 : BitVec 32 := 1#32
  ⟨c0_i32_184, v230, c1_i32_186⟩
def k0_off34 (k0_t7 : Fin k0_t7_loop.trips) : Fin 3 → Nat :=
  let c1_i32_236 : BitVec 32 := 1#32
  let v287 : Index := Scalar.indexCast c1_i32_236
  let c0_i32_237 : BitVec 32 := 0#32
  let v288 : Index := Scalar.indexCast c0_i32_237
  let c0_i32_235 : BitVec 32 := 0#32
  let c0_i32_184 : BitVec 32 := 0#32
  let c1_i32_186 : BitVec 32 := 1#32
  let arg10 : BitVec 32 := Scf.iv c0_i32_184 c1_i32_186 k0_t7
  let c1_i32_234 : BitVec 32 := 1#32
  let v284 : BitVec 32 := Scalar.muli arg10 c1_i32_234
  let v285 : BitVec 32 := Scalar.addi c0_i32_235 v284
  let c16_i32 : BitVec 32 := 16#32
  let v286 : BitVec 32 := Scalar.muli v285 c16_i32
  let v289 : Index := Scalar.indexCast v286
  ![1, 0, v289.toNat]
def k0_off35 (k0_t7 : Fin k0_t7_loop.trips) : Fin 3 → Nat :=
  let c1_i32_239 : BitVec 32 := 1#32
  let v292 : Index := Scalar.indexCast c1_i32_239
  let c1_i32_240 : BitVec 32 := 1#32
  let v293 : Index := Scalar.indexCast c1_i32_240
  let c0_i32_235 : BitVec 32 := 0#32
  let c0_i32_184 : BitVec 32 := 0#32
  let c1_i32_186 : BitVec 32 := 1#32
  let arg10 : BitVec 32 := Scf.iv c0_i32_184 c1_i32_186 k0_t7
  let c1_i32_234 : BitVec 32 := 1#32
  let v284 : BitVec 32 := Scalar.muli arg10 c1_i32_234
  let v285 : BitVec 32 := Scalar.addi c0_i32_235 v284
  let c16_i32_238 : BitVec 32 := 16#32
  let v291 : BitVec 32 := Scalar.muli v285 c16_i32_238
  let v294 : Index := Scalar.indexCast v291
  ![1, 1, v294.toNat]
def k0_off36 (k0_t7 : Fin k0_t7_loop.trips) : Fin 2 → Nat :=
  let c1_i32_242 : BitVec 32 := 1#32
  let v297 : Index := Scalar.indexCast c1_i32_242
  let c0_i32_235 : BitVec 32 := 0#32
  let c0_i32_184 : BitVec 32 := 0#32
  let c1_i32_186 : BitVec 32 := 1#32
  let arg10 : BitVec 32 := Scf.iv c0_i32_184 c1_i32_186 k0_t7
  let c1_i32_234 : BitVec 32 := 1#32
  let v284 : BitVec 32 := Scalar.muli arg10 c1_i32_234
  let v285 : BitVec 32 := Scalar.addi c0_i32_235 v284
  let c16_i32_241 : BitVec 32 := 16#32
  let v296 : BitVec 32 := Scalar.muli v285 c16_i32_241
  let v298 : Index := Scalar.indexCast v296
  ![1, v298.toNat]

def k0_chk6 (v290 : IVec S16 32) (v295 : IVec S16 32) : Prop :=
  (∀ a x, ((![v290, v295] : Fin 2 → IVec S16 32) a x).toNat < S256x256.size a)
theorem k0_idx6_inb : ∀ (v290 : IVec S16 32) (v295 : IVec S16 32) (k0_hw6 : k0_chk6 v290 v295), ∀ a x, ((![v290, v295] : Fin 2 → IVec S16 32) a x).toNat < S256x256.size a := fun v290 v295 k0_hw6 => k0_hw6
@[reducible] def k0_t8_loop : Scf.Loop 32 :=
  let c0_i32_213 : BitVec 32 := 0#32
  let c256_i32_214 : BitVec 32 := 256#32
  let v265 : BitVec 32 := Scalar.addi c0_i32_213 c256_i32_214
  let c1_i32_215 : BitVec 32 := 1#32
  ⟨c0_i32_213, v265, c1_i32_215⟩
def k0_off37 (k0_t8 : Fin k0_t8_loop.trips) : Fin 3 → Nat :=
  let c0_i32_236 : BitVec 32 := 0#32
  let v287 : Index := Scalar.indexCast c0_i32_236
  let c0_i32_237 : BitVec 32 := 0#32
  let v288 : Index := Scalar.indexCast c0_i32_237
  let c0_i32_235 : BitVec 32 := 0#32
  let c0_i32_213 : BitVec 32 := 0#32
  let c1_i32_215 : BitVec 32 := 1#32
  let arg10 : BitVec 32 := Scf.iv c0_i32_213 c1_i32_215 k0_t8
  let c1_i32_234 : BitVec 32 := 1#32
  let v284 : BitVec 32 := Scalar.muli arg10 c1_i32_234
  let v285 : BitVec 32 := Scalar.addi c0_i32_235 v284
  let c16_i32 : BitVec 32 := 16#32
  let v286 : BitVec 32 := Scalar.muli v285 c16_i32
  let v289 : Index := Scalar.indexCast v286
  ![0, 0, v289.toNat]
def k0_off38 (k0_t8 : Fin k0_t8_loop.trips) : Fin 3 → Nat :=
  let c0_i32_239 : BitVec 32 := 0#32
  let v292 : Index := Scalar.indexCast c0_i32_239
  let c1_i32_240 : BitVec 32 := 1#32
  let v293 : Index := Scalar.indexCast c1_i32_240
  let c0_i32_235 : BitVec 32 := 0#32
  let c0_i32_213 : BitVec 32 := 0#32
  let c1_i32_215 : BitVec 32 := 1#32
  let arg10 : BitVec 32 := Scf.iv c0_i32_213 c1_i32_215 k0_t8
  let c1_i32_234 : BitVec 32 := 1#32
  let v284 : BitVec 32 := Scalar.muli arg10 c1_i32_234
  let v285 : BitVec 32 := Scalar.addi c0_i32_235 v284
  let c16_i32_238 : BitVec 32 := 16#32
  let v291 : BitVec 32 := Scalar.muli v285 c16_i32_238
  let v294 : Index := Scalar.indexCast v291
  ![0, 1, v294.toNat]
def k0_off39 (k0_t8 : Fin k0_t8_loop.trips) : Fin 2 → Nat :=
  let c0_i32_242 : BitVec 32 := 0#32
  let v297 : Index := Scalar.indexCast c0_i32_242
  let c0_i32_235 : BitVec 32 := 0#32
  let c0_i32_213 : BitVec 32 := 0#32
  let c1_i32_215 : BitVec 32 := 1#32
  let arg10 : BitVec 32 := Scf.iv c0_i32_213 c1_i32_215 k0_t8
  let c1_i32_234 : BitVec 32 := 1#32
  let v284 : BitVec 32 := Scalar.muli arg10 c1_i32_234
  let v285 : BitVec 32 := Scalar.addi c0_i32_235 v284
  let c16_i32_241 : BitVec 32 := 16#32
  let v296 : BitVec 32 := Scalar.muli v285 c16_i32_241
  let v298 : Index := Scalar.indexCast v296
  ![0, v298.toNat]

def k0_chk7 (v290 : IVec S16 32) (v295 : IVec S16 32) : Prop :=
  (∀ a x, ((![v290, v295] : Fin 2 → IVec S16 32) a x).toNat < S256x256.size a)
theorem k0_idx7_inb : ∀ (v290 : IVec S16 32) (v295 : IVec S16 32) (k0_hw7 : k0_chk7 v290 v295), ∀ a x, ((![v290, v295] : Fin 2 → IVec S16 32) a x).toNat < S256x256.size a := fun v290 v295 k0_hw7 => k0_hw7
@[reducible] def k0_t9_loop : Scf.Loop 32 :=
  let c0_i32_230 : BitVec 32 := 0#32
  let c256_i32_231 : BitVec 32 := 256#32
  let v283 : BitVec 32 := Scalar.addi c0_i32_230 c256_i32_231
  let c1_i32_232 : BitVec 32 := 1#32
  ⟨c0_i32_230, v283, c1_i32_232⟩
def k0_off40 (k0_t9 : Fin k0_t9_loop.trips) : Fin 3 → Nat :=
  let c1_i32_236 : BitVec 32 := 1#32
  let v287 : Index := Scalar.indexCast c1_i32_236
  let c0_i32_237 : BitVec 32 := 0#32
  let v288 : Index := Scalar.indexCast c0_i32_237
  let c0_i32_235 : BitVec 32 := 0#32
  let c0_i32_230 : BitVec 32 := 0#32
  let c1_i32_232 : BitVec 32 := 1#32
  let arg10 : BitVec 32 := Scf.iv c0_i32_230 c1_i32_232 k0_t9
  let c1_i32_234 : BitVec 32 := 1#32
  let v284 : BitVec 32 := Scalar.muli arg10 c1_i32_234
  let v285 : BitVec 32 := Scalar.addi c0_i32_235 v284
  let c16_i32 : BitVec 32 := 16#32
  let v286 : BitVec 32 := Scalar.muli v285 c16_i32
  let v289 : Index := Scalar.indexCast v286
  ![1, 0, v289.toNat]
def k0_off41 (k0_t9 : Fin k0_t9_loop.trips) : Fin 3 → Nat :=
  let c1_i32_239 : BitVec 32 := 1#32
  let v292 : Index := Scalar.indexCast c1_i32_239
  let c1_i32_240 : BitVec 32 := 1#32
  let v293 : Index := Scalar.indexCast c1_i32_240
  let c0_i32_235 : BitVec 32 := 0#32
  let c0_i32_230 : BitVec 32 := 0#32
  let c1_i32_232 : BitVec 32 := 1#32
  let arg10 : BitVec 32 := Scf.iv c0_i32_230 c1_i32_232 k0_t9
  let c1_i32_234 : BitVec 32 := 1#32
  let v284 : BitVec 32 := Scalar.muli arg10 c1_i32_234
  let v285 : BitVec 32 := Scalar.addi c0_i32_235 v284
  let c16_i32_238 : BitVec 32 := 16#32
  let v291 : BitVec 32 := Scalar.muli v285 c16_i32_238
  let v294 : Index := Scalar.indexCast v291
  ![1, 1, v294.toNat]
def k0_off42 (k0_t9 : Fin k0_t9_loop.trips) : Fin 2 → Nat :=
  let c1_i32_242 : BitVec 32 := 1#32
  let v297 : Index := Scalar.indexCast c1_i32_242
  let c0_i32_235 : BitVec 32 := 0#32
  let c0_i32_230 : BitVec 32 := 0#32
  let c1_i32_232 : BitVec 32 := 1#32
  let arg10 : BitVec 32 := Scf.iv c0_i32_230 c1_i32_232 k0_t9
  let c1_i32_234 : BitVec 32 := 1#32
  let v284 : BitVec 32 := Scalar.muli arg10 c1_i32_234
  let v285 : BitVec 32 := Scalar.addi c0_i32_235 v284
  let c16_i32_241 : BitVec 32 := 16#32
  let v296 : BitVec 32 := Scalar.muli v285 c16_i32_241
  let v298 : Index := Scalar.indexCast v296
  ![1, v298.toNat]

def k0_chk8 (v290 : IVec S16 32) (v295 : IVec S16 32) : Prop :=
  (∀ a x, ((![v290, v295] : Fin 2 → IVec S16 32) a x).toNat < S256x256.size a)
theorem k0_idx8_inb : ∀ (v290 : IVec S16 32) (v295 : IVec S16 32) (k0_hw8 : k0_chk8 v290 v295), ∀ a x, ((![v290, v295] : Fin 2 → IVec S16 32) a x).toNat < S256x256.size a := fun v290 v295 k0_hw8 => k0_hw8
def k0_off43 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_234_r0 : BitVec 32 := 0#32
  let c0_i32_235_r0 : BitVec 32 := 0#32
  ![v1.toNat, 0, 0]
abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S32x256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x256 : Shape := ⟨2, ![16384, 256]⟩
abbrev S2x1048576 : Shape := ⟨2, ![2, 1048576]⟩
abbrev S1048576 : Shape := ⟨1, ![1048576]⟩
abbrev S256 : Shape := ⟨1, ![256]⟩
abbrev S1x1048576 : Shape := ⟨2, ![1, 1048576]⟩
abbrev S_ : Shape := ⟨0, ![]⟩
abbrev S1048576x1 : Shape := ⟨2, ![1048576, 1]⟩
abbrev S1 : Shape := ⟨1, ![1]⟩
abbrev S1x1 : Shape := ⟨2, ![1, 1]⟩
abbrev S1048576x256 : Shape := ⟨2, ![1048576, 256]⟩
abbrev S256x256 : Shape := ⟨2, ![256, 256]⟩
abbrev S1x1x256 : Shape := ⟨3, ![1, 1, 256]⟩
abbrev S256x1x256 : Shape := ⟨3, ![256, 1, 256]⟩
abbrev S1x256x256 : Shape := ⟨3, ![1, 256, 256]⟩
abbrev S256x256x256 : Shape := ⟨3, ![256, 256, 256]⟩

abbrev nBuf : Space → Nat
  | .hbm => 51
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S2x1048576, .i32⟩
  | .hbm, ⟨2, _⟩ => ⟨S1048576, .f32⟩
  | .hbm, ⟨3, _⟩ => ⟨S256, .f32⟩
  | .hbm, ⟨4, _⟩ => ⟨S1x1048576, .i32⟩
  | .hbm, ⟨5, _⟩ => ⟨S1048576, .i32⟩
  | .hbm, ⟨6, _⟩ => ⟨S1x1048576, .i32⟩
  | .hbm, ⟨7, _⟩ => ⟨S1048576, .i32⟩
  | .hbm, ⟨8, _⟩ => ⟨S_, .i32⟩
  | .hbm, ⟨9, _⟩ => ⟨S1048576, .i32⟩
  | .hbm, ⟨10, _⟩ => ⟨S1048576, .i1⟩
  | .hbm, ⟨11, _⟩ => ⟨S_, .i32⟩
  | .hbm, ⟨12, _⟩ => ⟨S1048576, .i32⟩
  | .hbm, ⟨13, _⟩ => ⟨S1048576, .i32⟩
  | .hbm, ⟨14, _⟩ => ⟨S1048576, .i32⟩
  | .hbm, ⟨15, _⟩ => ⟨S1048576x1, .i32⟩
  | .hbm, ⟨16, _⟩ => ⟨S1, .i32⟩
  | .hbm, ⟨17, _⟩ => ⟨S_, .i32⟩
  | .hbm, ⟨18, _⟩ => ⟨S1048576x1, .i32⟩
  | .hbm, ⟨19, _⟩ => ⟨S1048576x1, .i1⟩
  | .hbm, ⟨20, _⟩ => ⟨S1x1, .i32⟩
  | .hbm, ⟨21, _⟩ => ⟨S1048576x1, .i32⟩
  | .hbm, ⟨22, _⟩ => ⟨S1048576x1, .i1⟩
  | .hbm, ⟨23, _⟩ => ⟨S1048576x1, .i1⟩
  | .hbm, ⟨24, _⟩ => ⟨S_, .i1⟩
  | .hbm, ⟨25, _⟩ => ⟨S1048576, .i1⟩
  | .hbm, ⟨26, _⟩ => ⟨S1048576x256, .f32⟩
  | .hbm, ⟨27, _⟩ => ⟨S1048576x256, .i1⟩
  | .hbm, ⟨28, _⟩ => ⟨S_, .f32⟩
  | .hbm, ⟨29, _⟩ => ⟨S1048576x256, .f32⟩
  | .hbm, ⟨30, _⟩ => ⟨S1048576x256, .f32⟩
  | .hbm, ⟨31, _⟩ => ⟨S1048576x1, .f32⟩
  | .hbm, ⟨32, _⟩ => ⟨S1048576x256, .f32⟩
  | .hbm, ⟨33, _⟩ => ⟨S1048576x256, .f32⟩
  | .hbm, ⟨34, _⟩ => ⟨S_, .f32⟩
  | .hbm, ⟨35, _⟩ => ⟨S256x256, .f32⟩
  | .hbm, ⟨36, _⟩ => ⟨S_, .i32⟩
  | .hbm, ⟨37, _⟩ => ⟨S1048576, .i32⟩
  | .hbm, ⟨38, _⟩ => ⟨S1048576, .i1⟩
  | .hbm, ⟨39, _⟩ => ⟨S_, .i32⟩
  | .hbm, ⟨40, _⟩ => ⟨S1048576, .i32⟩
  | .hbm, ⟨41, _⟩ => ⟨S1048576, .i32⟩
  | .hbm, ⟨42, _⟩ => ⟨S1048576, .i32⟩
  | .hbm, ⟨43, _⟩ => ⟨S1048576x1, .i32⟩
  | .hbm, ⟨44, _⟩ => ⟨S256x256, .f32⟩
  | .hbm, ⟨45, _⟩ => ⟨S1x1x256, .f32⟩
  | .hbm, ⟨46, _⟩ => ⟨S256x1x256, .f32⟩
  | .hbm, ⟨47, _⟩ => ⟨S1x256x256, .f32⟩
  | .hbm, ⟨48, _⟩ => ⟨S256x256x256, .f32⟩
  | .hbm, ⟨49, _⟩ => ⟨S256x256x256, .f32⟩
  | .hbm, ⟨50, _⟩ => ⟨S256x256x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_c : Ref sig .tc := ⟨.hbm, 36, rfl⟩
abbrev main_v9 : Ref sig .tc := ⟨.hbm, 37, rfl⟩
abbrev main_v10 : Ref sig .tc := ⟨.hbm, 38, rfl⟩
abbrev main_c_0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩

abbrev nD : Nat := 1
abbrev τ : Topo := Topo.v7x

variable {F : FTy → Type} [FloatOps F]
-- ==== Proof.Setup.lean ====
/- The set-up of the kernel's run: the program as the launch theorem takes it, the resource algebra, and the names of
   the buffers a vector subcore's task works on. -/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ViewIndex
public import Idealize.ShloMosaic.Lib.Writes
public import proofs.«01_k».proof.Proof.Gen.KernelIdeal
public import proofs.«01_k».proof.Proof.Gen.KernelIdeal.Skeleton

@[expose] public section

noncomputable section

namespace Cert.Proof.Acc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct, unscoped, and no buffer is shared with a sequencer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
/-- The rounds of the TensorCore pipeline's own semaphores. -/
abbrev UP : Type := URounds (GSem nD τ sig) Unit
abbrev UU : Type := UH × (UP × Counters)

local notation "𝕄" => MT nD τ sig (HIx 1) (Elt F) ℕ UU ℕ

/-- The handshakes' rounds, the left factor. -/
abbrev EH : Emb UH (MT nD τ sig (HIx 1) (Elt F) ℕ UU ℕ) := embL

/-- The pipeline's rounds: the left half of the right factor, whose other half is the transfers' counters. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- The transfers' counters. -/
abbrev EC : UEmb Counters (MT nD τ sig (HIx 1) (Elt F) ℕ UU ℕ) := countersEmb

/-! ## The buffers -/

abbrev xLoc (d : Dev nD) : Loc nD τ sig := (SparseCore.T d).loc main_arg0
abbrev iLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev pLoc (d : Dev nD) : Loc nD τ sig := (SparseCore.T d).loc main_v0
abbrev rLoc (d : Dev nD) : Loc nD τ sig := (SparseCore.T d).loc main_v3

/-- The index array, the values and the partial results, as a vector subcore names them. -/
abbrev iV : Memref sig .scVector .hbm S2x1048576 .i32 := Memref.whole main_arg1_scv
abbrev wV : Memref sig .scVector .hbm S1048576 .f32 := Memref.whole main_arg2_scv
abbrev pV : Memref sig .scVector .hbm S32x256x256 .f32 := Memref.whole main_v0_scv
/-- The accumulator, the index scratch and the value scratch of a vector subcore. -/
abbrev sA : Memref sig .scVector .vmem S256x256 .f32 := Memref.whole cc0_scratch0
abbrev sI : Memref sig .scVector .vmem S2x2x4096 .i32 := Memref.whole cc0_scratch1
abbrev sW : Memref sig .scVector .vmem S2x4096 .f32 := Memref.whole cc0_scratch2

abbrev cV (L : grid0.Coords) : Fin τ.nSC := (L 0).castLE hcore0
abbrev jV (L : grid0.Coords) : Fin τ.nSub := (L 1).castLE hsub0
/-- The thread of the task at grid coordinates `L` of device `d`. -/
abbrev thr (d : Dev nD) (L : grid0.Coords) : Thread nD τ := V d (cV L) (jV L)

/-- Buffer `b` lies inside the index scratch, the value scratch. -/
abbrev FitI (b : ℕ) : Prop := ∀ a, (![b, 0, 0] : Fin 3 → ℕ) a + S1x2x4096.size a ≤ S2x2x4096.size a
abbrev FitW (b : ℕ) : Prop := ∀ a, (![b, 0] : Fin 2 → ℕ) a + S1x4096.size a ≤ S2x4096.size a

/-- Buffer `b` of the index scratch, of the value scratch. -/
abbrev halfI (b : ℕ) (hb : FitI b) : Memref sig .scVector .vmem S2x4096 .i32 :=
  (sI.slice (Rect.unit (s := S2x2x4096) ![b, 0, 0] S1x2x4096.size hb) (fun _ => rfl)).squeeze S2x4096 squeezes_S1x2x4096_S2x4096
abbrev halfW (b : ℕ) (hb : FitW b) : Memref sig .scVector .vmem S4096 .f32 :=
  (sW.slice (Rect.unit (s := S2x4096) ![b, 0] S1x4096.size hb) (fun _ => rfl)).squeeze S4096 squeezes_S1x4096_S4096

/-- A chunk of the index array and of the values, at the offsets given. -/
abbrev srcI (o : Fin 2 → ℕ) (ho : ∀ a, o a + S2x4096.size a ≤ S2x1048576.size a) : Memref sig .scVector .hbm S2x4096 .i32 :=
  iV.slice (Rect.unit (s := S2x1048576) o S2x4096.size ho) (fun _ => rfl)
abbrev srcW (o : Fin 1 → ℕ) (ho : ∀ a, o a + S4096.size a ≤ S1048576.size a) : Memref sig .scVector .hbm S4096 .f32 :=
  wV.slice (Rect.unit (s := S1048576) o S4096.size ho) (fun _ => rfl)

/-- The semaphore at position `b` of a pair. -/
abbrev semAt (a : DmaSems sig S2) (b : ℕ) (hb : ∀ x, (![b] : Fin 1 → ℕ) x + S1.size x ≤ S2.size x) : DmaSem sig :=
  ((a.slice (Rect.unit (s := S2) ![b] S1.size hb)).squeeze S_ squeezes_S1_S_).sem

/-- The number of the task: which run of the nonzeros it sums, and which partial result it writes. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-! ## What the scratch holds after a chunk has come in -/

/-- A position of the list of nonzeros, kept inside the list. -/
def pos (n : ℕ) : Fin 1048576 := ⟨n % 1048576, Nat.mod_lt _ (by norm_num)⟩

theorem pos_val {n : ℕ} (h : n < 1048576) : (pos n).val = n := Nat.mod_eq_of_lt h

/-- An index of the index array: row `a` (0 the rows, 1 the columns) at position `n`. -/
def ixI (a : Fin 2) (n : ℕ) : S2x1048576.Idx := fun | 0 => a | 1 => pos n | ⟨_ + 2, h⟩ => absurd h (Nat.not_lt.2 (Nat.le_add_left _ _))
/-- An index of the values. -/
def ixW (n : ℕ) : S1048576.Idx := fun | 0 => pos n | ⟨_ + 1, h⟩ => absurd h (Nat.not_lt.2 (Nat.le_add_left _ _))

/-- Both buffers of the index scratch at the chunk of the index array that begins at position `n`; -/
def bufI (I : Vec F S2x1048576 .i32) (n : ℕ) : Vec F S2x2x4096 .i32 := fun p => I (ixI (p 1) (n + (p 2).val))
/-- both buffers of the value scratch at the chunk of the values that begins there. -/
def bufW (W : Vec F S1048576 .f32) (n : ℕ) : Vec F S2x4096 .f32 := fun p => W (ixW (n + (p 1).val))

/-! ## The accumulator -/

/-- The rows of the sixteen nonzeros from position `n` on, their columns and their values. -/
def rowsAt (I : Vec F S2x1048576 .i32) (n : ℕ) : IVec S16 32 := fun x => I (ixI 0 (n + (x 0).val))
def colsAt (I : Vec F S2x1048576 .i32) (n : ℕ) : IVec S16 32 := fun x => I (ixI 1 (n + (x 0).val))
def valsAt (W : Vec F S1048576 .f32) (n : ℕ) : Vec F S16 .f32 := fun x => W (ixW (n + (x 0).val))

variable [FloatOps F]

/-- The accumulator with the sixteen nonzeros from position `n` on added in (unchanged if one of their indices is not
    inside it). -/
def accStep (I : Vec F S2x1048576 .i32) (W : Vec F S1048576 .f32) (n : ℕ) (g : Vec F S256x256 .f32) : Vec F S256x256 .f32 :=
  open Classical in
  if h : ∀ (a : Fin 2) (x : S16.Idx), ((![rowsAt (F := F) I n, colsAt (F := F) I n] : Fin 2 → IVec S16 32) a x).toNat < S256x256.size a then
    storeIdx (e := .f32) g ![rowsAt (F := F) I n, colsAt (F := F) I n] (valsAt W n) (fun _ => 1#1) true h
  else g

/-- The accumulator after `t` groups of sixteen nonzeros from position `n` on. -/
def accAfter (I : Vec F S2x1048576 .i32) (W : Vec F S1048576 .f32) (n : ℕ) : ℕ → Vec F S256x256 .f32
  | 0 => fun _ => Scalar.ofBits .f32 0x00000000#32
  | t + 1 => accStep I W (n + 16 * t) (accAfter I W n t)

/-- The indices the launch's arrays hold are inside the accumulator. -/
def InRange (I : Vec F S2x1048576 .i32) : Prop := ∀ i, (I i : BitVec 32).toNat < 256

theorem accStep_of (I : Vec F S2x1048576 .i32) (W : Vec F S1048576 .f32) (n : ℕ) (g : Vec F S256x256 .f32)
    (h : ∀ (a : Fin 2) (x : S16.Idx), ((![rowsAt (F := F) I n, colsAt (F := F) I n] : Fin 2 → IVec S16 32) a x).toNat < S256x256.size a) :
    accStep I W n g = storeIdx (e := .f32) g ![rowsAt (F := F) I n, colsAt (F := F) I n] (valsAt W n) (fun _ => 1#1) true h :=
  dif_pos h

theorem inRange_chk {I : Vec F S2x1048576 .i32} (hI : InRange I) (n : ℕ) :
    ∀ (a : Fin 2) (x : S16.Idx), ((![rowsAt (F := F) I n, colsAt (F := F) I n] : Fin 2 → IVec S16 32) a x).toNat < S256x256.size a := by
  intro a x
  match a with
  | 0 => exact hI _
  | 1 => exact hI _

end Cert.Proof.Acc

end
-- ==== Proof.Copies.lean ====
/- The copies of a vector subcore's task: a chunk of the index array, or of the values, into a buffer of its scratch.
   A copy borrows its chunk of the array from a read share of the whole and hands the share back whole at the wait,
   together with the buffer at the chunk's contents. -/
module

public import proofs.«01_k».proof.Proof.Setup

@[expose] public section

noncomputable section

namespace Cert.Proof.Acc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A local copy whose source lies inside a part `R` of an array held at a share: the copy's delivery is the
    destination at the contents `f'` that the copy writes, and the share of `R` given back. -/
theorem wp_start {c : Thread nD τ} {sp sp' : Space} {s : Shape} {e : EltTy} {α : Type}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ₀ c.2) α} {Q : α → sProp 𝕄} {q : PosShare TreeShare}
    {fs : Buf (Elt F) (src.view.loc c)} {fd f' : Buf (Elt F) (dst.view.loc c)}
    (R : Finset (Idx (src.view.loc c))) (hR : src.view.set ⊆ R) (N : ℕ) (hN : dst.view.amount sm = N) (hN0 : 0 < N)
    (hf : ∀ p ∈ dst.view.set, dst.view.write (Elt F) fd (src.view.read (Elt F) fs) Finset.univ p = f' p) :
    iprop((src.view.loc c ↦[R]{q} fs) ∗ (dst.view.loc c ↦[dst.view.set]{fullShare} fd) ∗ semVal (c, sm) 0)
      ⊢ (iprop((Transfers.Flight (EC (F := F)) c sm none N
                iprop((dst.view.loc c ↦[dst.view.set]{fullShare} f') ∗ (src.view.loc c ↦[R]{q} fs))
              -∗ wp frame (wpE (defs₀ (F := F)) 𝒱₀ c none) Set.univ (k ⟨⟩) Q)
          -∗ wp frame (wpE (defs₀ (F := F)) 𝒱₀ c none) Set.univ (.op (.enqueueDma src (.here dst) sm hsrc hdst hsem) k) Q) : sProp 𝕄) := by
  iintro ⟨Hs, Hd, Hv⟩ Hk
  ihave Hs2 := (pointsTo_split_subset (ℓ := src.view.loc c) (q := q) (f := fs) hR).1 $$ Hs
  icases Hs2 with ⟨Hs, Hr⟩
  iapply (Transfers.wp_dmaLocal (defs := defs₀ (F := F)) (EC (F := F)) 𝒱₀ c none none N hN hN0 subset_rfl) $$ [Hs Hd Hv]
  · isplitl [Hs]; · iexact Hs
    isplitl [Hd] <;> iassumption
  iintro Hfl
  iapply Hk
  ihave Hfl := (Transfers.Flight_frame (EC (F := F)) c) $$ [Hr Hfl]
  · isplitl [Hr]; · iexact Hr
    iexact Hfl
  iapply (Transfers.Flight_mono (EC (F := F)) c ?_) $$ Hfl
  iintro ⟨Hr, Hd, Hs⟩
  isplitl [Hd]
  · iapply (Entails.of_eq (pointsTo_congr hf)) $$ Hd
  · iapply (pointsTo_split_subset (ℓ := src.view.loc c) (q := q) (f := fs) hR).2
    isplitl [Hs] <;> iassumption

/-! ## Where the buffers and the chunks lie -/

/-- Element `y` of buffer `b` of the index scratch. -/
theorem emb_halfI (b : ℕ) (hb : FitI b) (y : S2x4096.Idx) (a : Fin 3) :
    (((halfI b hb).view.emb y) a).val = (![b, (y 0).val, (y 1).val] : Fin 3 → ℕ) a := by
  show ((Rect.unit (s := S2x2x4096) ![b, 0, 0] S1x2x4096.size hb).emb (Shape.reshapeEquiv squeezes_S1x2x4096_S2x4096.numel_eq y) a).val = _
  rw [Shape.reshapeEquiv_cons_one (n := 2) (d := ![2, 4096])]
  rw [Rect.emb_apply]
  match a with
  | 0 => show b + 1 * 0 = b; omega
  | 1 => show 0 + 1 * (y 0).val = (y 0).val; omega
  | 2 => show 0 + 1 * (y 1).val = (y 1).val; omega

/-- Element `y` of buffer `b` of the value scratch. -/
theorem emb_halfW (b : ℕ) (hb : FitW b) (y : S4096.Idx) (a : Fin 2) :
    (((halfW b hb).view.emb y) a).val = (![b, (y 0).val] : Fin 2 → ℕ) a := by
  show ((Rect.unit (s := S2x4096) ![b, 0] S1x4096.size hb).emb (Shape.reshapeEquiv squeezes_S1x4096_S4096.numel_eq y) a).val = _
  rw [Shape.reshapeEquiv_cons_one (n := 1) (d := ![4096])]
  rw [Rect.emb_apply]
  match a with
  | 0 => show b + 1 * 0 = b; omega
  | 1 => show 0 + 1 * (y 0).val = (y 0).val; omega

/-- Buffer `b` of the index scratch is the elements whose first coordinate is `b`. -/
theorem mem_halfI (b : ℕ) (hb : FitI b) (p : S2x2x4096.Idx) : p ∈ (halfI b hb).view.set ↔ (p 0).val = b := by
  constructor
  · intro h
    obtain ⟨y, -, rfl⟩ := Finset.mem_map.mp h
    exact emb_halfI b hb y 0
  · intro h
    refine Finset.mem_map.mpr ⟨(fun | 0 => p 1 | 1 => p 2 | ⟨_ + 2, h⟩ => absurd h (Nat.not_lt.2 (Nat.le_add_left _ _)) : S2x4096.Idx), Finset.mem_univ _, ?_⟩
    funext a
    apply Fin.ext
    rw [emb_halfI]
    match a with
    | 0 => exact h.symm
    | 1 => rfl
    | 2 => rfl

/-- Buffer `b` of the value scratch is the elements whose first coordinate is `b`. -/
theorem mem_halfW (b : ℕ) (hb : FitW b) (p : S2x4096.Idx) : p ∈ (halfW b hb).view.set ↔ (p 0).val = b := by
  constructor
  · intro h
    obtain ⟨y, -, rfl⟩ := Finset.mem_map.mp h
    exact emb_halfW b hb y 0
  · intro h
    refine Finset.mem_map.mpr ⟨(fun | 0 => p 1 | ⟨_ + 1, h⟩ => absurd h (Nat.not_lt.2 (Nat.le_add_left _ _)) : S4096.Idx), Finset.mem_univ _, ?_⟩
    funext a
    apply Fin.ext
    rw [emb_halfW]
    match a with
    | 0 => exact h.symm
    | 1 => rfl

/-- A chunk of the index array copied into a buffer leaves the buffer at the chunk's contents. -/
theorem land_I (b : ℕ) (hb : FitI b) (o : Fin 2 → ℕ) (ho) (n : ℕ) (hn : n + 4096 ≤ 1048576) (hoff : o = ![0, n])
    (I : Vec F S2x1048576 .i32) (fd : Vec F S2x2x4096 .i32) :
    ∀ p ∈ (halfI b hb).view.set, (halfI b hb).view.write (Elt F) fd ((srcI o ho).view.read (Elt F) I) Finset.univ p = bufI I n p := by
  intro p hp
  obtain ⟨y, -, rfl⟩ := Finset.mem_map.mp hp
  rw [View.write_emb_of_mem _ _ (Finset.mem_univ y)]
  have e1 : ((halfI b hb).view.emb y) 1 = y 0 := Fin.ext (emb_halfI b hb y 1)
  have e2 : (((halfI b hb).view.emb y) 2).val = (y 1).val := emb_halfI b hb y 2
  show I ((srcI o ho).view.emb y) = I (ixI (((halfI b hb).view.emb y) 1) (n + (((halfI b hb).view.emb y) 2).val))
  rw [e1, e2]
  congr 1
  have hy : (y 1).val < 4096 := (y 1).isLt
  funext a
  apply Fin.ext
  show ((Rect.unit (s := S2x1048576) o S2x4096.size ho).emb y a).val = _
  rw [Rect.emb_apply]
  subst hoff
  match a with
  | 0 => show 0 + 1 * (y 0).val = (y 0).val; omega
  | 1 => show n + 1 * (y 1).val = (pos (n + (y 1).val)).val; rw [pos_val (by omega)]; omega

/-- A chunk of the values copied into a buffer leaves the buffer at the chunk's contents. -/
theorem land_W (b : ℕ) (hb : FitW b) (o : Fin 1 → ℕ) (ho) (n : ℕ) (hn : n + 4096 ≤ 1048576) (hoff : o = ![n])
    (W : Vec F S1048576 .f32) (fd : Vec F S2x4096 .f32) :
    ∀ p ∈ (halfW b hb).view.set, (halfW b hb).view.write (Elt F) fd ((srcW o ho).view.read (Elt F) W) Finset.univ p = bufW W n p := by
  intro p hp
  obtain ⟨y, -, rfl⟩ := Finset.mem_map.mp hp
  rw [View.write_emb_of_mem _ _ (Finset.mem_univ y)]
  have e1 : (((halfW b hb).view.emb y) 1).val = (y 0).val := emb_halfW b hb y 1
  show W ((srcW o ho).view.emb y) = W (ixW (n + (((halfW b hb).view.emb y) 1).val))
  rw [e1]
  congr 1
  have hy : (y 0).val < 4096 := (y 0).isLt
  funext a
  apply Fin.ext
  show ((Rect.unit (s := S1048576) o S4096.size ho).emb y a).val = _
  rw [Rect.emb_apply]
  subst hoff
  match a with
  | 0 => show n + 1 * (y 0).val = (pos (n + (y 0).val)).val; rw [pos_val (by omega)]; omega

/-! ## Starting a copy and waiting for it -/

/-- A buffer of the index scratch at some contents. -/
abbrev someI (d : Dev nD) (L : grid0.Coords) (b : ℕ) (hb : FitI b) : sProp 𝕄 :=
  iprop(∃ f, (halfI b hb).view.loc (thr d L) ↦[(halfI b hb).view.set]{fullShare} f)
abbrev someW (d : Dev nD) (L : grid0.Coords) (b : ℕ) (hb : FitW b) : sProp 𝕄 :=
  iprop(∃ f, (halfW b hb).view.loc (thr d L) ↦[(halfW b hb).view.set]{fullShare} f)
/-- A buffer of the index scratch at the chunk that begins at position `n`. -/
abbrev heldI (d : Dev nD) (L : grid0.Coords) (b : ℕ) (hb : FitI b) (I : Vec F S2x1048576 .i32) (n : ℕ) : sProp 𝕄 :=
  (halfI b hb).view.loc (thr d L) ↦[(halfI b hb).view.set]{fullShare} (bufI I n : Vec F S2x2x4096 .i32)
abbrev heldW (d : Dev nD) (L : grid0.Coords) (b : ℕ) (hb : FitW b) (W : Vec F S1048576 .f32) (n : ℕ) : sProp 𝕄 :=
  (halfW b hb).view.loc (thr d L) ↦[(halfW b hb).view.set]{fullShare} (bufW W n : Vec F S2x4096 .f32)
/-- The copy of the chunk that begins at position `n` into buffer `b` of the index scratch, under way: its wait
    delivers the buffer at that chunk and the share of the index array. -/
abbrev flyI (d : Dev nD) (L : grid0.Coords) (b : ℕ) (hb : FitI b) (sm : DmaSem sig) (q : PosShare TreeShare) (I : Vec F S2x1048576 .i32) (n : ℕ) : sProp 𝕄 :=
  Transfers.Flight (EC (F := F)) (thr d L) (.dma sm) none (halfI b hb).view.dmaCredit iprop(heldI d L b hb I n ∗ (iLoc d ↦{q} I))
abbrev flyW (d : Dev nD) (L : grid0.Coords) (b : ℕ) (hb : FitW b) (sm : DmaSem sig) (q : PosShare TreeShare) (W : Vec F S1048576 .f32) (n : ℕ) : sProp 𝕄 :=
  Transfers.Flight (EC (F := F)) (thr d L) (.dma sm) none (halfW b hb).view.dmaCredit iprop(heldW d L b hb W n ∗ (wLoc d ↦{q} W))

section copies

variable {d : Dev nD} {L : grid0.Coords} {b : ℕ} {sm : DmaSem sig} {q : PosShare TreeShare}

/-- Starting the copy of a chunk of the index array. -/
theorem wp_startI {α : Type} {hb : FitI b} {o : Fin 2 → ℕ} {ho} {hsrc : (srcI o ho).view.WordExact} {hdst : (halfI b hb).view.WordExact}
    {hsem : DmaTarget.Typed (nD := nD) .hbm (.dma sm) (.here (p := (thr d L).2) (halfI b hb))}
    {k : PUnit → Prog (TpuEff nD τ sig (Elt F) Λ₀ (thr d L).2) α} {Q : α → sProp 𝕄}
    (I : Vec F S2x1048576 .i32) (n : ℕ) (hn : n + 4096 ≤ 1048576) (hoff : o = ![0, n]) :
    iprop((iLoc d ↦{q} I) ∗ someI d L b hb ∗ semVal ((thr d L), .dma sm) 0)
      ⊢ (iprop((flyI d L b hb sm q I n -∗ wp frame (wpE (defs₀ (F := F)) 𝒱₀ (thr d L) none) Set.univ (k ⟨⟩) Q)
          -∗ wp frame (wpE (defs₀ (F := F)) 𝒱₀ (thr d L) none) Set.univ
              (.op (.enqueueDma (srcI o ho) (.here (halfI b hb)) (.dma sm) hsrc hdst hsem) k) Q) : sProp 𝕄) := by
  iintro ⟨Hs, ⟨%f, Hd⟩, Hv⟩ Hk
  iapply (wp_start (c := thr d L) (src := srcI o ho) (dst := halfI b hb) (f' := bufI I n) (fd := f) (fs := I)
    Finset.univ (Finset.subset_univ _) _ rfl (View.amount_pos _ _ (by decide)) (land_I b hb o ho n hn hoff I f)) $$ [Hs Hd Hv]
  · isplitl [Hs]; · iexact Hs
    isplitl [Hd] <;> iassumption
  iexact Hk

/-- Starting the copy of a chunk of the values. -/
theorem wp_startW {α : Type} {hb : FitW b} {o : Fin 1 → ℕ} {ho} {hsrc : (srcW o ho).view.WordExact} {hdst : (halfW b hb).view.WordExact}
    {hsem : DmaTarget.Typed (nD := nD) .hbm (.dma sm) (.here (p := (thr d L).2) (halfW b hb))}
    {k : PUnit → Prog (TpuEff nD τ sig (Elt F) Λ₀ (thr d L).2) α} {Q : α → sProp 𝕄}
    (W : Vec F S1048576 .f32) (n : ℕ) (hn : n + 4096 ≤ 1048576) (hoff : o = ![n]) :
    iprop((wLoc d ↦{q} W) ∗ someW d L b hb ∗ semVal ((thr d L), .dma sm) 0)
      ⊢ (iprop((flyW d L b hb sm q W n -∗ wp frame (wpE (defs₀ (F := F)) 𝒱₀ (thr d L) none) Set.univ (k ⟨⟩) Q)
          -∗ wp frame (wpE (defs₀ (F := F)) 𝒱₀ (thr d L) none) Set.univ
              (.op (.enqueueDma (srcW o ho) (.here (halfW b hb)) (.dma sm) hsrc hdst hsem) k) Q) : sProp 𝕄) := by
  iintro ⟨Hs, ⟨%f, Hd⟩, Hv⟩ Hk
  iapply (wp_start (c := thr d L) (src := srcW o ho) (dst := halfW b hb) (f' := bufW W n) (fd := f) (fs := W)
    Finset.univ (Finset.subset_univ _) _ rfl (View.amount_pos _ _ (by decide)) (land_W b hb o ho n hn hoff W f)) $$ [Hs Hd Hv]
  · isplitl [Hs]; · iexact Hs
    isplitl [Hd] <;> iassumption
  iexact Hk

/-- What the task owes, with every wait so far answered at no call. -/
abbrev owing (d : Dev nD) (L : grid0.Coords) (O : CellTallies nD τ sig (HIx 1)) (W : Waits sig (HIx 1)) : sProp 𝕄 :=
  iprop(∃ W', ⌜∀ p ∈ W', p ∈ W ∨ p.2 = none⌝ ∗ owes (thr d L) O W')

/-- Waiting for a copy: its delivery and its counter back at zero. -/
theorem wp_wait {α : Type} {sp sp' : Space} {s s' : Shape} {e e' : EltTy} {κ' : Kind} {srcw : Memref sig (thr d L).2.kind sp' s' e'} {dstw : Memref sig κ' sp s e}
    {hsrc : srcw.view.WordExact} {hdst : dstw.view.WordExact} {k : PUnit → Prog (TpuEff nD τ sig (Elt F) Λ₀ (thr d L).2) α} {Q : α → sProp 𝕄}
    {N : ℕ} {R : sProp 𝕄} {O : CellTallies nD τ sig (HIx 1)} {W : Waits sig (HIx 1)} (hN : dstw.view.dmaCredit = N) :
    iprop(Transfers.Flight (EC (F := F)) (thr d L) (.dma sm) none N R ∗ owing d L O W ∗ Transfers.MayWaits (thr d L) (none : HIx 1) O)
      ⊢ (iprop((iprop(R ∗ semVal (thr d L, .dma sm) 0 ∗ owing d L O W) -∗ wp frame (wpE (defs₀ (F := F)) 𝒱₀ (thr d L) none) Set.univ (k ⟨⟩) Q)
          -∗ wp frame (wpE (defs₀ (F := F)) 𝒱₀ (thr d L) none) Set.univ (.op (.waitDma2 sm srcw dstw hsrc hdst) k) Q) : sProp 𝕄) := by
  iintro ⟨Hf, ⟨%W', %hW, Ho⟩, #Hmw⟩ Hk
  iapply (Transfers.wp_waitLocalO (defs := defs₀ (F := F)) (EC (F := F)) 𝒱₀ (thr d L) none none hN) $$ [Hf Ho]
  · isplitl [Hf]; · iexact Hf
    isplitl [Ho]; · iexact Ho
    iapply (Transfers.MayWaits.elim (.dma sm)) $$ Hmw
  iintro ⟨Hd, Hv, Ho⟩
  iapply Hk
  isplitl [Hd]; · iexact Hd
  isplitl [Hv]; · iexact Hv
  iexists (insert (SemLoc.dma sm, (none : HIx 1)) W')
  isplitr [Ho]
  · ipureintro
    intro p hp
    rcases Finset.mem_insert.mp hp with h | h
    · exact Or.inr (by rw [h])
    · exact hW p h
  · iexact Ho

end copies

end Cert.Proof.Acc

end
-- ==== Proof.Steps.lean ====
/- The two loops of a vector subcore's task: one zeroes the accumulator, sixteen elements at a time; the other adds
   sixteen nonzeros of the buffered chunk into it. -/
module

public import proofs.«01_k».proof.Proof.Copies
public import Idealize.ShloMosaic.Lib.SparseCore.Ops

@[expose] public section

noncomputable section

namespace Cert.Proof.Acc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Zeroing the accumulator -/

/-- The accumulator with its first `N` elements, in row-major order, at zero. -/
def zeroed (f : Vec F S256x256 .f32) (N : ℕ) : Vec F S256x256 .f32 :=
  fun p => if (p 0).val * 256 + (p 1).val < N then Scalar.ofBits .f32 0x00000000#32 else f p

/-- The accumulator of a vector subcore at contents `f`. -/
abbrev accIs (d : Dev nD) (L : grid0.Coords) (f : Vec F S256x256 .f32) : sProp 𝕄 :=
  (thr d L).loc cc0_scratch0 ↦[Finset.univ]{fullShare} f

/-- Storing sixteen zeros after the first `N` zeroed elements. -/
theorem write_zeroed (f : Vec F S256x256 .f32) (o : Fin 2 → ℕ) (ho : ∀ a, o a + S1x16.size a ≤ S256x256.size a) (t j N : ℕ) (hj : j < 16)
    (hoff : o = ![t, 16 * j]) (hN : N = 256 * t + 16 * j) (w : Vec F S1x16 .f32) (hw : ∀ x, w x = Scalar.ofBits .f32 0x00000000#32) :
    (sA.access (Rect.unit (s := S256x256) o S1x16.size ho)).write (Elt F) (zeroed f N) w Finset.univ = zeroed f (N + 16) := by
  subst hoff
  funext p
  have h1 : (p 1).val < 256 := (p 1).isLt
  by_cases hp : (p 0).val = t ∧ 16 * j ≤ (p 1).val ∧ (p 1).val < 16 * j + 16
  · obtain ⟨h0, h2, h3⟩ := hp
    let x : S1x16.Idx := fun | 0 => (⟨0, by decide⟩ : Fin 1) | 1 => (⟨(p 1).val - 16 * j, by omega⟩ : Fin 16) | ⟨_ + 2, h⟩ => absurd h (Nat.not_lt.2 (Nat.le_add_left _ _))
    have hx : (sA.access (Rect.unit (s := S256x256) ![t, 16 * j] S1x16.size ho)).emb x = p := by
      funext a
      apply Fin.ext
      show ((Rect.unit (s := S256x256) ![t, 16 * j] S1x16.size ho).emb x a).val = _
      rw [Rect.emb_apply]
      match a with
      | 0 => show t + 1 * 0 = (p 0).val; omega
      | 1 => show 16 * j + 1 * ((p 1).val - 16 * j) = (p 1).val; omega
    have := View.write_emb_of_mem (Val := Elt F) (v := sA.access (Rect.unit (s := S256x256) ![t, 16 * j] S1x16.size ho)) (zeroed f N) w (Finset.mem_univ x)
    rw [hx] at this
    rw [this]
    show w x = _
    rw [hw, zeroed, if_pos (by omega)]
  · rw [View.write_of_not_mem]
    · unfold zeroed
      have : (p 0).val * 256 + (p 1).val < N ↔ (p 0).val * 256 + (p 1).val < N + 16 := by omega
      simp only [this]
    · intro hm
      obtain ⟨x, -, rfl⟩ := Finset.mem_map.mp hm
      apply hp
      have e0 : (((sA.access (Rect.unit (s := S256x256) ![t, 16 * j] S1x16.size ho)).emb x) 0).val = t + 1 * (x 0).val := rfl
      have e1 : (((sA.access (Rect.unit (s := S256x256) ![t, 16 * j] S1x16.size ho)).emb x) 1).val = 16 * j + 1 * (x 1).val := rfl
      have b0 : (x 0).val < 1 := (x 0).isLt
      have b1 : (x 1).val < 16 := (x 1).isLt
      rw [e0, e1]
      omega

section steps

variable {d : Dev nD} {L : grid0.Coords}

/-- A load from the accumulator leaves it as it is. -/
theorem wp_peek {α : Type} {r : LoadRect S256x256} {hl : (sA).view.LoadsAt r}
    {k : (r.shape.Idx → Elt F .f32) → Prog (TpuEff nD τ sig (Elt F) Λ₀ (thr d L).2) α} {Q : α → sProp 𝕄} (f : Vec F S256x256 .f32) :
    accIs d L f ⊢ (iprop((∀ x, accIs d L f -∗ wp frame (wpE (defs₀ (F := F)) 𝒱₀ (thr d L) none) Set.univ (k x) Q)
      -∗ wp frame (wpE (defs₀ (F := F)) 𝒱₀ (thr d L) none) Set.univ (.op (.load sA r hl) k) Q) : sProp 𝕄) := by
  iintro H Hk
  iapply (wp_load (defs := defs₀ (F := F)) 𝒱₀ (thr d L) none Set.univ (m := sA) (S := Finset.univ) (Finset.subset_univ _)) $$ H
  iintro H
  iapply Hk $$ H

/-- Storing sixteen zeros into the accumulator. -/
theorem wp_zero {α : Type} {o : Fin 2 → ℕ} {ho : ∀ a, o a + S1x16.size a ≤ S256x256.size a} {w : Vec F S1x16 .f32} {hs hm}
    {k : PUnit → Prog (TpuEff nD τ sig (Elt F) Λ₀ (thr d L).2) α} {Q : α → sProp 𝕄} (f : Vec F S256x256 .f32) (t j : ℕ) (hj : j < 16)
    (hoff : o = ![t, 16 * j]) (hw : ∀ x, w x = Scalar.ofBits .f32 0x00000000#32) :
    accIs d L (zeroed f (256 * t + 16 * j)) ⊢ (iprop((accIs d L (zeroed f (256 * t + 16 * (j + 1))) -∗ wp frame (wpE (defs₀ (F := F)) 𝒱₀ (thr d L) none) Set.univ (k ⟨⟩) Q)
      -∗ wp frame (wpE (defs₀ (F := F)) 𝒱₀ (thr d L) none) Set.univ (.op (.store sA (Rect.unit (s := S256x256) o S1x16.size ho) w Finset.univ hs hm) k) Q) : sProp 𝕄) := by
  iintro H Hk
  iapply (wp_store (defs := defs₀ (F := F)) 𝒱₀ (thr d L) none Set.univ (m := sA) (r := Rect.unit (s := S256x256) o S1x16.size ho) (w := w) (Mk := Finset.univ)
    (S := Finset.univ) (f := zeroed f (256 * t + 16 * j)) (Finset.subset_univ _)) $$ H
  iintro H
  iapply Hk
  rw [show 256 * t + 16 * (j + 1) = 256 * t + 16 * j + 16 by ring, ← write_zeroed f o ho t j _ hj hoff rfl w hw]
  iexact H

/-! ## Adding sixteen nonzeros -/

/-- The place in the shape `1×1×16` of a lane. -/
theorem lane3 (h : S16.numel = S1x1x16.numel) (x : S16.Idx) (a : Fin 3) :
    ((Shape.reshapeEquiv h x) a).val = (![0, 0, (x 0).val] : Fin 3 → ℕ) a := by
  have e : Shape.reshapeEquiv h x = (fun | 0 => (0 : Fin 1) | 1 => (0 : Fin 1) | 2 => x 0 | ⟨_ + 3, h⟩ => absurd h (Nat.not_lt.2 (Nat.le_add_left _ _)) : S1x1x16.Idx) := by
    apply Shape.reshapeEquiv_eq_of_rowMajor
    erw [Shape.rowMajor_val_three, Shape.rowMajor_val_one]
    show (0 * 1 + 0) * 16 + (x 0).val = (x 0).val
    omega
  rw [e]
  match a with
  | 0 => rfl
  | 1 => rfl
  | 2 => rfl

/-- The place in the shape `1×16` of a lane. -/
theorem lane2 (h : S16.numel = S1x16.numel) (x : S16.Idx) (a : Fin 2) :
    ((Shape.reshapeEquiv h x) a).val = (![0, (x 0).val] : Fin 2 → ℕ) a := by
  rw [Shape.reshapeEquiv_cons_one (n := 1) (d := ![16])]
  match a with
  | 0 => rfl
  | 1 => rfl

/-- Sixteen lanes read from row `a` of a buffered chunk of the index array. -/
theorem read_I (b n t : ℕ) (a : Fin 2) (o : Fin 3 → ℕ) (ho : ∀ a, o a + S1x1x16.size a ≤ S2x2x4096.size a) (hoff : o = ![b, a.val, 16 * t])
    (I : Vec F S2x1048576 .i32) (x : S16.Idx) :
    (shapeCast S16 ((sI).view.readAt (Elt F) (Rect.unit (s := S2x2x4096) o S1x1x16.size ho).toLoadRect (bufI I n)) shapeCasts_S1x1x16_S16 : Vec F S16 .i32) x
      = I (ixI a (n + 16 * t + (x 0).val)) := by
  subst hoff
  show I (ixI (((Rect.unit (s := S2x2x4096) ![b, a.val, 16 * t] S1x1x16.size ho).emb (Shape.reshapeEquiv shapeCasts_S1x1x16_S16 x)) 1)
      (n + (((Rect.unit (s := S2x2x4096) ![b, a.val, 16 * t] S1x1x16.size ho).emb (Shape.reshapeEquiv shapeCasts_S1x1x16_S16 x)) 2).val)) = _
  have e1 : ((Rect.unit (s := S2x2x4096) ![b, a.val, 16 * t] S1x1x16.size ho).emb (Shape.reshapeEquiv shapeCasts_S1x1x16_S16 x)) 1 = a := by
    apply Fin.ext
    rw [Rect.emb_apply, lane3]
    show a.val + 1 * 0 = a.val
    omega
  have e2 : (((Rect.unit (s := S2x2x4096) ![b, a.val, 16 * t] S1x1x16.size ho).emb (Shape.reshapeEquiv shapeCasts_S1x1x16_S16 x)) 2).val = 16 * t + (x 0).val := by
    rw [Rect.emb_apply, lane3]
    show 16 * t + 1 * (x 0).val = 16 * t + (x 0).val
    omega
  rw [e1, e2, Nat.add_assoc]

/-- Sixteen lanes read from a buffered chunk of the values. -/
theorem read_W (b n t : ℕ) (o : Fin 2 → ℕ) (ho : ∀ a, o a + S1x16.size a ≤ S2x4096.size a) (hoff : o = ![b, 16 * t])
    (W : Vec F S1048576 .f32) (x : S16.Idx) :
    (shapeCast S16 ((sW).view.readAt (Elt F) (Rect.unit (s := S2x4096) o S1x16.size ho).toLoadRect (bufW W n)) shapeCasts_S1x16_S16 : Vec F S16 .f32) x
      = W (ixW (n + 16 * t + (x 0).val)) := by
  subst hoff
  show W (ixW (n + (((Rect.unit (s := S2x4096) ![b, 16 * t] S1x16.size ho).emb (Shape.reshapeEquiv shapeCasts_S1x16_S16 x)) 1).val)) = _
  have e2 : (((Rect.unit (s := S2x4096) ![b, 16 * t] S1x16.size ho).emb (Shape.reshapeEquiv shapeCasts_S1x16_S16 x)) 1).val = 16 * t + (x 0).val := by
    rw [Rect.emb_apply, lane2]
    show 16 * t + 1 * (x 0).val = 16 * t + (x 0).val
    omega
  rw [e2, Nat.add_assoc]

/-- A window of the index scratch that begins in buffer `b` lies in buffer `b`. -/
theorem sub_I (b : ℕ) (hb : FitI b) (t a : ℕ) (o : Fin 3 → ℕ) (ho : ∀ a, o a + S1x1x16.size a ≤ S2x2x4096.size a) (hoff : o = ![b, a, 16 * t]) :
    (sI).view.setOn (Rect.unit (s := S2x2x4096) o S1x1x16.size ho).toLoadRect.set ⊆ (halfI b hb).view.set := by
  subst hoff
  intro p hp
  obtain ⟨y, hy, rfl⟩ := Finset.mem_map.mp hp
  obtain ⟨j, hj, e⟩ := (LoadRect.mem_set _).mp hy 0
  rw [mem_halfI]
  show (y 0).val = b
  have hj' : j < 1 := hj
  have e' : (y 0).val = b + 1 * j := e
  omega

/-- A window of the value scratch that begins in buffer `b` lies in buffer `b`. -/
theorem sub_W (b : ℕ) (hb : FitW b) (t : ℕ) (o : Fin 2 → ℕ) (ho : ∀ a, o a + S1x16.size a ≤ S2x4096.size a) (hoff : o = ![b, 16 * t]) :
    (sW).view.setOn (Rect.unit (s := S2x4096) o S1x16.size ho).toLoadRect.set ⊆ (halfW b hb).view.set := by
  subst hoff
  intro p hp
  obtain ⟨y, hy, rfl⟩ := Finset.mem_map.mp hp
  obtain ⟨j, hj, e⟩ := (LoadRect.mem_set _).mp hy 0
  rw [mem_halfW]
  show (y 0).val = b
  have hj' : j < 1 := hj
  have e' : (y 0).val = b + 1 * j := e
  omega

/-- The lanes' indices are inside the accumulator. -/
abbrev Inside (v w : IVec S16 32) : Prop := ∀ a x, ((![v, w] : Fin 2 → IVec S16 32) a x).toNat < S256x256.size a

/-- The accumulator seen through its whole rectangle. -/
theorem acc_whole (g : Vec F S256x256 .f32) :
    accIs d L g ⊢ ((sA.access (.whole S256x256)).loc (thr d L) ↦[(sA.access (.whole S256x256)).set]{fullShare} g : sProp 𝕄) := by
  have e : (sA.access (.whole S256x256)).set = Finset.univ := Memref.set_access_whole cc0_scratch0
  rw [e]

/-- The accumulator stored whole through its whole rectangle, by what a scatter makes of what it held. -/
theorem acc_scattered (g : Vec F S256x256 .f32) (φ : Vec F S256x256 .f32 → Vec F S256x256 .f32) :
    ((sA.access (.whole S256x256)).loc (thr d L) ↦[(sA.access (.whole S256x256)).set]{fullShare}
      ((sA.access (.whole S256x256)).write (Elt F) g (φ ((sA.access (.whole S256x256)).read (Elt F) g)) Finset.univ) : sProp 𝕄)
      ⊢ accIs d L (φ g) := by
  have e : (sA.access (.whole S256x256)).set = Finset.univ := Memref.set_access_whole cc0_scratch0
  have e2 : (sA.access (.whole S256x256)).read (Elt F) g = g := Memref.read_access_whole (Elt F) cc0_scratch0 g
  have e3 : (sA.access (.whole S256x256)).write (Elt F) g (φ g) Finset.univ = φ g := Memref.write_access_whole_univ (Elt F) cc0_scratch0 g (φ g)
  rw [e, e2, e3]

/-- … by the scatter of the sixteen nonzeros from position `n` on. -/
theorem acc_added (I : Vec F S2x1048576 .i32) (W : Vec F S1048576 .f32) (n : ℕ) (g : Vec F S256x256 .f32) (v w : IVec S16 32) (u : Vec F S16 .f32)
    (r1 : v = rowsAt (F := F) I n) (r2 : w = colsAt (F := F) I n) (r3 : u = valsAt W n) (hin : Inside v w) :
    ((sA.access (.whole S256x256)).loc (thr d L) ↦[(sA.access (.whole S256x256)).set]{fullShare}
      ((sA.access (.whole S256x256)).write (Elt F) g
        (storeIdx (e := .f32) ((sA.access (.whole S256x256)).read (Elt F) g) ![v, w] u (fun _ => 1#1) true hin) Finset.univ) : sProp 𝕄)
      ⊢ accIs d L (accStep I W n g) := by
  subst r1 r2 r3
  rw [accStep_of I W n g hin]
  exact acc_scattered g fun f => storeIdx (e := .f32) f ![rowsAt (F := F) I n, colsAt (F := F) I n] (valsAt W n) (fun _ => 1#1) true hin

/-- One trip of an adding loop: the sixteen nonzeros at place `t` of the chunk that begins at position `n`, held in
    buffer `b`, are added into the accumulator. -/
theorem wp_trip {b : ℕ} {hbI : FitI b} {hbW : FitW b} {o1 o2 : Fin 3 → ℕ} {o3 : Fin 2 → ℕ}
    {h1 : ∀ a, o1 a + S1x1x16.size a ≤ S2x2x4096.size a} {h2 : ∀ a, o2 a + S1x1x16.size a ≤ S2x2x4096.size a} {h3 : ∀ a, o3 a + S1x16.size a ≤ S2x4096.size a}
    {l1 l2 l3 hs} {dec : ∀ v w : IVec S16 32, Decidable (Inside v w)}
    (n t : ℕ) (e1 : o1 = ![b, 0, 16 * t]) (e2 : o2 = ![b, 1, 16 * t]) (e3 : o3 = ![b, 16 * t])
    (I : Vec F S2x1048576 .i32) (W : Vec F S1048576 .f32) (hI : InRange I) (g : Vec F S256x256 .f32) :
    iprop(accIs d L g ∗ heldI d L b hbI I n ∗ heldW d L b hbW W n)
      ⊢ (wp frame (wpE (defs₀ (F := F)) 𝒱₀ (thr d L) none) Set.univ
          (.op (.load sI (Rect.unit (s := S2x2x4096) o1 S1x1x16.size h1).toLoadRect l1) fun v =>
            .op (.load sI (Rect.unit (s := S2x2x4096) o2 S1x1x16.size h2).toLoadRect l2) fun w =>
            .op (.assume (Inside (shapeCast S16 v shapeCasts_S1x1x16_S16) (shapeCast S16 w shapeCasts_S1x1x16_S16)) (dec _ _)) fun hw =>
            .op (.load sW (Rect.unit (s := S2x4096) o3 S1x16.size h3).toLoadRect l3) fun u =>
            SparseCore.vectorStoreIdx sA ![shapeCast S16 v shapeCasts_S1x1x16_S16, shapeCast S16 w shapeCasts_S1x1x16_S16]
              (shapeCast S16 u shapeCasts_S1x16_S16) (fun _ => 1#1) true hw.down hs >>= fun _ => .ret ())
          (fun _ => iprop(accIs d L (accStep I W (n + 16 * t) g) ∗ heldI d L b hbI I n ∗ heldW d L b hbW W n)) : sProp 𝕄) := by
  iintro ⟨Ha, Hi, Hw⟩
  iapply (wp_load (defs := defs₀ (F := F)) 𝒱₀ (thr d L) none Set.univ (m := sI) (sub_I b hbI t 0 o1 h1 e1)) $$ Hi
  iintro Hi
  iapply (wp_load (defs := defs₀ (F := F)) 𝒱₀ (thr d L) none Set.univ (m := sI) (sub_I b hbI t 1 o2 h2 e2)) $$ Hi
  iintro Hi
  have r1 : (shapeCast S16 ((sI).view.readAt (Elt F) (Rect.unit (s := S2x2x4096) o1 S1x1x16.size h1).toLoadRect (bufI I n)) shapeCasts_S1x1x16_S16 : Vec F S16 .i32)
      = rowsAt (F := F) I (n + 16 * t) := funext fun x => read_I b n t 0 o1 h1 e1 I x
  have r2 : (shapeCast S16 ((sI).view.readAt (Elt F) (Rect.unit (s := S2x2x4096) o2 S1x1x16.size h2).toLoadRect (bufI I n)) shapeCasts_S1x1x16_S16 : Vec F S16 .i32)
      = colsAt (F := F) I (n + 16 * t) := funext fun x => read_I b n t 1 o2 h2 e2 I x
  have r3 : (shapeCast S16 ((sW).view.readAt (Elt F) (Rect.unit (s := S2x4096) o3 S1x16.size h3).toLoadRect (bufW W n)) shapeCasts_S1x16_S16 : Vec F S16 .f32)
      = valsAt W (n + 16 * t) := funext fun x => read_W b n t o3 h3 e3 W x
  have hin := inRange_chk (F := F) hI (n + 16 * t)
  rw [wp_assume_of _ _ _ _ (show Inside _ _ by erw [r1, r2]; exact hin)]
  iapply (wp_load (defs := defs₀ (F := F)) 𝒱₀ (thr d L) none Set.univ (m := sW) (sub_W b hbW t o3 h3 e3)) $$ Hw
  iintro Hw
  iapply (SparseCore.wp_vectorStoreIdx (defs := defs₀ (F := F)) 𝒱₀ (thr d L) none Set.univ (base := sA) (f := g)) $$ [Ha]
  · iapply (acc_whole g) $$ Ha
  iintro Ha
  rw [wp_ret]
  imodintro
  isplitl [Ha]
  · iapply (acc_added I W (n + 16 * t) g _ _ _ r1 r2 r3 _) $$ Ha
  · isplitl [Hi] <;> iassumption

end steps

end Cert.Proof.Acc

end
-- ==== Proof.Turn.lean ====
/- One turn of a vector subcore's task: start the copy of the next chunk into the free buffer, wait for the current
   chunk, add it into the accumulator. The turn is proved once, for every chunk and both buffers. -/
module

public import proofs.«01_k».proof.Proof.Steps

@[expose] public section

noncomputable section

namespace Cert.Proof.Acc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section turn

variable {d : Dev nD} {L : grid0.Coords}

/-- An adding loop: the 256 trips of chunk `k`, from the accumulator after `k` chunks to the accumulator after one more. -/
theorem wp_adds {b : ℕ} {hbI : FitI b} {hbW : FitW b} {α : Type} {lp : Scf.Loop 32} {hok : lp.OK} (htr : lp.trips = 256)
    {body : Fin lp.trips → Unit → Prog (TpuEff nD τ sig (Elt F) Λ₀ (thr d L).2) Unit}
    {kk : Unit → Prog (TpuEff nD τ sig (Elt F) Λ₀ (thr d L).2) α} {Q : α → sProp 𝕄}
    (n k : ℕ) (I : Vec F S2x1048576 .i32) (W : Vec F S1048576 .f32)
    (hbody : ∀ (t : Fin lp.trips) (g : Vec F S256x256 .f32),
      iprop(accIs d L g ∗ heldI d L b hbI I (n + 4096 * k) ∗ heldW d L b hbW W (n + 4096 * k))
        ⊢ (wp frame (wpE (defs₀ (F := F)) 𝒱₀ (thr d L) none) Set.univ (body t ())
            (fun _ => iprop(accIs d L (accStep I W (n + 4096 * k + 16 * t.val) g) ∗ heldI d L b hbI I (n + 4096 * k) ∗ heldW d L b hbW W (n + 4096 * k))) : sProp 𝕄)) :
    iprop(accIs d L (accAfter I W n (256 * k)) ∗ heldI d L b hbI I (n + 4096 * k) ∗ heldW d L b hbW W (n + 4096 * k))
      ⊢ (iprop((iprop(accIs d L (accAfter I W n (256 * (k + 1))) ∗ heldI d L b hbI I (n + 4096 * k) ∗ heldW d L b hbW W (n + 4096 * k))
            -∗ wp frame (wpE (defs₀ (F := F)) 𝒱₀ (thr d L) none) Set.univ (kk ()) Q)
          -∗ wp frame (wpE (defs₀ (F := F)) 𝒱₀ (thr d L) none) Set.univ (Scf.Loop.for lp hok () body >>= kk) Q) : sProp 𝕄) := by
  iintro H Hk
  iapply (Scf.wp_for_bind frame (wpE (defs₀ (F := F)) 𝒱₀ (thr d L) none) Set.univ _ _ _ hok () body
    (fun t _ => iprop(accIs d L (accAfter I W n (256 * k + t)) ∗ heldI d L b hbI I (n + 4096 * k) ∗ heldW d L b hbW W (n + 4096 * k)))
    ?_) $$ [H]
  · intro t u
    refine (hbody t _).trans (wp_mono frame _ _ fun _ => ?_)
    rw [show n + 4096 * k + 16 * t.val = n + 16 * (256 * k + t.val) by ring]
    exact .rfl
  · iexact H
  iintro %u H
  iapply Hk
  rw [show 256 * (k + 1) = 256 * k + lp.trips by rw [htr]; ring]
  iexact H

/-- A buffer pair that is free, with the read shares that the next copies into it will borrow. -/
abbrev free (d : Dev nD) (L : grid0.Coords) (b : ℕ) (hbI : FitI b) (hbW : FitW b) (si sw : DmaSem sig) (q : PosShare TreeShare)
    (I : Vec F S2x1048576 .i32) (W : Vec F S1048576 .f32) : sProp 𝕄 :=
  iprop(((iLoc d ↦{q} I) ∗ someI d L b hbI ∗ semVal (thr d L, .dma si) 0) ∗ ((wLoc d ↦{q} W) ∗ someW d L b hbW ∗ semVal (thr d L, .dma sw) 0))

/-- A buffer pair with both copies of the chunk at position `n` under way. -/
abbrev busy (d : Dev nD) (L : grid0.Coords) (b : ℕ) (hbI : FitI b) (hbW : FitW b) (si sw : DmaSem sig) (q : PosShare TreeShare)
    (I : Vec F S2x1048576 .i32) (W : Vec F S1048576 .f32) (n : ℕ) : sProp 𝕄 :=
  iprop(flyI d L b hbI si q I n ∗ flyW d L b hbW sw q W n)

/-- Starting both copies of a chunk. -/
theorem wp_fill {α : Type} {b : ℕ} {hbI : FitI b} {hbW : FitW b} {si sw : DmaSem sig} {q : PosShare TreeShare}
    {o : Fin 2 → ℕ} {ho} {o' : Fin 1 → ℕ} {ho'}
    {hsrc : (srcI o ho).view.WordExact} {hdst : (halfI b hbI).view.WordExact}
    {hsem : DmaTarget.Typed (nD := nD) .hbm (.dma si) (.here (p := (thr d L).2) (halfI b hbI))}
    {hsrc' : (srcW o' ho').view.WordExact} {hdst' : (halfW b hbW).view.WordExact}
    {hsem' : DmaTarget.Typed (nD := nD) .hbm (.dma sw) (.here (p := (thr d L).2) (halfW b hbW))}
    {k : PUnit → Prog (TpuEff nD τ sig (Elt F) Λ₀ (thr d L).2) α} {Q : α → sProp 𝕄}
    (I : Vec F S2x1048576 .i32) (W : Vec F S1048576 .f32) (n : ℕ) (hn : n + 4096 ≤ 1048576) (hoff : o = ![0, n]) (hoff' : o' = ![n]) :
    free d L b hbI hbW si sw q I W
      ⊢ (iprop((busy d L b hbI hbW si sw q I W n -∗ wp frame (wpE (defs₀ (F := F)) 𝒱₀ (thr d L) none) Set.univ (k ⟨⟩) Q)
          -∗ wp frame (wpE (defs₀ (F := F)) 𝒱₀ (thr d L) none) Set.univ
              (.op (.enqueueDma (srcI o ho) (.here (halfI b hbI)) (.dma si) hsrc hdst hsem) fun _ =>
                .op (.enqueueDma (srcW o' ho') (.here (halfW b hbW)) (.dma sw) hsrc' hdst' hsem') k) Q) : sProp 𝕄) := by
  iintro ⟨Hi, Hw⟩ Hk
  iapply (wp_startI I n hn hoff) $$ Hi
  iintro Hi
  iapply (wp_startW W n hn hoff') $$ Hw
  iintro Hw
  iapply Hk
  isplitl [Hi] <;> iassumption

/-- Waiting for both copies of chunk `k` and adding it in. -/
theorem wp_use {α : Type} {b : ℕ} {hbI : FitI b} {hbW : FitW b} {si sw : DmaSem sig} {q : PosShare TreeShare}
    {ui : Memref sig (thr d L).2.kind .hbm S2x4096 .i32} {uw : Memref sig (thr d L).2.kind .hbm S4096 .f32}
    {hsrc : ui.view.WordExact} {hdst : (halfI b hbI).view.WordExact} {hsrc' : uw.view.WordExact} {hdst' : (halfW b hbW).view.WordExact}
    {lp : Scf.Loop 32} {hok : lp.OK} (htr : lp.trips = 256)
    {body : Fin lp.trips → Unit → Prog (TpuEff nD τ sig (Elt F) Λ₀ (thr d L).2) Unit}
    {kk : Unit → Prog (TpuEff nD τ sig (Elt F) Λ₀ (thr d L).2) α} {Q : α → sProp 𝕄}
    {O : CellTallies nD τ sig (HIx 1)} {W' : Waits sig (HIx 1)}
    (n k : ℕ) (I : Vec F S2x1048576 .i32) (W : Vec F S1048576 .f32)
    (hbody : ∀ (t : Fin lp.trips) (g : Vec F S256x256 .f32),
      iprop(accIs d L g ∗ heldI d L b hbI I (n + 4096 * k) ∗ heldW d L b hbW W (n + 4096 * k))
        ⊢ (wp frame (wpE (defs₀ (F := F)) 𝒱₀ (thr d L) none) Set.univ (body t ())
            (fun _ => iprop(accIs d L (accStep I W (n + 4096 * k + 16 * t.val) g) ∗ heldI d L b hbI I (n + 4096 * k) ∗ heldW d L b hbW W (n + 4096 * k))) : sProp 𝕄)) :
    iprop(busy d L b hbI hbW si sw q I W (n + 4096 * k) ∗ accIs d L (accAfter I W n (256 * k)) ∗ owing d L O W' ∗ Transfers.MayWaits (thr d L) (none : HIx 1) O)
      ⊢ (iprop((iprop(free d L b hbI hbW si sw q I W ∗ accIs d L (accAfter I W n (256 * (k + 1))) ∗ owing d L O W')
            -∗ wp frame (wpE (defs₀ (F := F)) 𝒱₀ (thr d L) none) Set.univ (kk ()) Q)
          -∗ wp frame (wpE (defs₀ (F := F)) 𝒱₀ (thr d L) none) Set.univ
              (.op (.waitDma2 si ui (halfI b hbI) hsrc hdst) fun _ => .op (.waitDma2 sw uw (halfW b hbW) hsrc' hdst') fun _ =>
                Scf.Loop.for lp hok () body >>= kk) Q) : sProp 𝕄) := by
  iintro ⟨⟨Hi, Hw⟩, Ha, Ho, #Hmw⟩ Hk
  iapply (wp_wait rfl) $$ [Hi Ho]
  · isplitl [Hi]; · iexact Hi
    isplitl [Ho]; · iexact Ho
    iexact Hmw
  iintro ⟨⟨Hi, Hsi⟩, Hvi, Ho⟩
  iapply (wp_wait rfl) $$ [Hw Ho]
  · isplitl [Hw]; · iexact Hw
    isplitl [Ho]; · iexact Ho
    iexact Hmw
  iintro ⟨⟨Hw, Hsw⟩, Hvw, Ho⟩
  iapply (wp_adds htr n k I W hbody) $$ [Ha Hi Hw]
  · isplitl [Ha]; · iexact Ha
    isplitl [Hi] <;> iassumption
  iintro ⟨Ha, Hi, Hw⟩
  iapply Hk
  isplitl [Hi Hsi Hvi Hw Hsw Hvw]
  · isplitl [Hi Hsi Hvi]
    · isplitl [Hsi]; · iexact Hsi
      isplitl [Hi]
      · iexists _; iexact Hi
      · iexact Hvi
    · isplitl [Hsw]; · iexact Hsw
      isplitl [Hw]
      · iexists _; iexact Hw
      · iexact Hvw
  · isplitl [Ha] <;> iassumption

end turn

end Cert.Proof.Acc

end
-- ==== Proof.Loops.lean ====
/- The zeroing loop of a vector subcore's task. -/
module

public import proofs.«01_k».proof.Proof.Turn

@[expose] public section

noncomputable section

namespace Cert.Proof.Acc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section loops

variable (d : Dev nD) (L : grid0.Coords)

/-- One load and one store of the zeroing loop. -/
theorem wp_clear {α : Type} {o : Fin 2 → ℕ} {ho : ∀ a, o a + S1x16.size a ≤ S256x256.size a} {w : Vec F S1x16 .f32} {hl hs hm}
    {k : PUnit → Prog (TpuEff nD τ sig (Elt F) Λ₀ (thr d L).2) α} {Q : α → sProp 𝕄} (f : Vec F S256x256 .f32) (t j : ℕ) (hj : j < 16)
    (hoff : o = ![t, 16 * j]) (hw : ∀ x, w x = Scalar.ofBits .f32 0x00000000#32) :
    accIs d L (zeroed f (256 * t + 16 * j)) ⊢ (iprop((accIs d L (zeroed f (256 * t + 16 * (j + 1))) -∗ wp frame (wpE (defs₀ (F := F)) 𝒱₀ (thr d L) none) Set.univ (k ⟨⟩) Q)
      -∗ wp frame (wpE (defs₀ (F := F)) 𝒱₀ (thr d L) none) Set.univ
          (.op (.load sA (Rect.unit (s := S256x256) o S1x16.size ho).toLoadRect hl) fun _ =>
            .op (.store sA (Rect.unit (s := S256x256) o S1x16.size ho) w Finset.univ hs hm) k) Q) : sProp 𝕄) := by
  iintro H Hk
  iapply (wp_peek _) $$ H
  iintro %x H
  iapply (wp_zero f t j hj hoff hw) $$ H
  iexact Hk

/-- One trip of the zeroing loop: one row of the accumulator. -/
theorem zero_trip (f : Vec F S256x256 .f32) (t : Fin k0_t1_loop.trips) :
    accIs d L (zeroed f (256 * t.val))
      ⊢ (wp frame (wpE (defs₀ (F := F)) 𝒱₀ (thr d L) none) Set.univ
          (k0_t1_body (F := F) L iV (Memref.isWhole_whole _) wV (Memref.isWhole_whole _) pV (Memref.isWhole_whole _) sA (Memref.isWhole_whole _)
            sI (Memref.isWhole_whole _) sW (Memref.isWhole_whole _) cc0_scratch3 cc0_scratch4 cc0_scoped0 t ())
          (fun _ => accIs d L (zeroed f (256 * (t.val + 1)))) : sProp 𝕄) := by
  unfold k0_t1_body
  rw [k0_part1_eq_skeleton]
  unfold k0_part1_skel
  simp only [Prog.lift, Prog.bind_op, Prog.bind_ret, Prog.pure_eq_ret]
  iintro H
  iapply (wp_clear d L f t.val 0 (by decide) (k0_off3_eq t) fun _ => rfl) $$ H; iintro H
  iapply (wp_clear d L f t.val 1 (by decide) (k0_off4_eq t) fun _ => rfl) $$ H; iintro H
  iapply (wp_clear d L f t.val 2 (by decide) (k0_off5_eq t) fun _ => rfl) $$ H; iintro H
  iapply (wp_clear d L f t.val 3 (by decide) (k0_off6_eq t) fun _ => rfl) $$ H; iintro H
  iapply (wp_clear d L f t.val 4 (by decide) (k0_off7_eq t) fun _ => rfl) $$ H; iintro H
  iapply (wp_clear d L f t.val 5 (by decide) (k0_off8_eq t) fun _ => rfl) $$ H; iintro H
  iapply (wp_clear d L f t.val 6 (by decide) (k0_off9_eq t) fun _ => rfl) $$ H; iintro H
  iapply (wp_clear d L f t.val 7 (by decide) (k0_off10_eq t) fun _ => rfl) $$ H; iintro H
  iapply (wp_clear d L f t.val 8 (by decide) (k0_off11_eq t) fun _ => rfl) $$ H; iintro H
  iapply (wp_clear d L f t.val 9 (by decide) (k0_off12_eq t) fun _ => rfl) $$ H; iintro H
  iapply (wp_clear d L f t.val 10 (by decide) (k0_off13_eq t) fun _ => rfl) $$ H; iintro H
  iapply (wp_clear d L f t.val 11 (by decide) (k0_off14_eq t) fun _ => rfl) $$ H; iintro H
  iapply (wp_clear d L f t.val 12 (by decide) (k0_off15_eq t) fun _ => rfl) $$ H; iintro H
  iapply (wp_clear d L f t.val 13 (by decide) (k0_off16_eq t) fun _ => rfl) $$ H; iintro H
  iapply (wp_clear d L f t.val 14 (by decide) (k0_off17_eq t) fun _ => rfl) $$ H; iintro H
  iapply (wp_clear d L f t.val 15 (by decide) (k0_off18_eq t) fun _ => rfl) $$ H; iintro H
  rw [wp_ret]
  imodintro
  iexact H

theorem trips_1 : k0_t1_loop.trips = 256 := by decide

/-- The whole zeroing loop leaves the accumulator as it stands before any nonzero has been added. -/
theorem wp_zeros {α : Type} {kk : Unit → Prog (TpuEff nD τ sig (Elt F) Λ₀ (thr d L).2) α} {Q : α → sProp 𝕄}
    (I : Vec F S2x1048576 .i32) (W : Vec F S1048576 .f32) (n : ℕ) (f : Vec F S256x256 .f32) :
    accIs d L f
      ⊢ (iprop((accIs d L (accAfter I W n 0) -∗ wp frame (wpE (defs₀ (F := F)) 𝒱₀ (thr d L) none) Set.univ (kk ()) Q)
          -∗ wp frame (wpE (defs₀ (F := F)) 𝒱₀ (thr d L) none) Set.univ
              (Scf.Loop.for k0_t1_loop k0_t1_ok () (k0_t1_body (F := F) L iV (Memref.isWhole_whole _) wV (Memref.isWhole_whole _) pV (Memref.isWhole_whole _) sA (Memref.isWhole_whole _)
            sI (Memref.isWhole_whole _) sW (Memref.isWhole_whole _) cc0_scratch3 cc0_scratch4 cc0_scoped0) >>= kk) Q) : sProp 𝕄) := by
  iintro H Hk
  iapply (Scf.wp_for_bind frame (wpE (defs₀ (F := F)) 𝒱₀ (thr d L) none) Set.univ _ _ _ k0_t1_ok () _
    (fun t _ => accIs d L (zeroed f (256 * t))) (fun t _ => zero_trip d L f t)) $$ [H]
  · rw [show zeroed f (256 * 0) = f from funext fun p => if_neg (by omega)]
    iexact H
  iintro %u H
  iapply Hk
  have e : zeroed f (256 * k0_t1_loop.trips) = accAfter I W n 0 := by
    rw [trips_1]
    funext p
    have h0 : (p 0).val < 256 := (p 0).isLt
    have h1 : (p 1).val < 256 := (p 1).isLt
    exact if_pos (by omega)
  iapply (Entails.of_eq (congrArg (accIs d L) e)) $$ H

end loops

end Cert.Proof.Acc

end
-- ==== Proof.Tile.lean ====
/- The task of one vector subcore, whole: zero the accumulator, eight turns, and the accumulator copied out to the
   task's row of the partial results. -/
module

public import proofs.«01_k».proof.Proof.Loops

@[expose] public section

noncomputable section

namespace Cert.Proof.Acc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The row of the partial results a task writes -/

/-- An index of the accumulator. -/
def ixA (r c : Fin 256) : S256x256.Idx := fun | 0 => r | 1 => c | ⟨_ + 2, h⟩ => absurd h (Nat.not_lt.2 (Nat.le_add_left _ _))

/-- The partial results of all tasks: row `w` is the accumulator after the 2048 groups of the nonzeros from position
    `32768 w` on. -/
def partials (I : Vec F S2x1048576 .i32) (W : Vec F S1048576 .f32) : Vec F S32x256x256 .f32 :=
  fun p => accAfter I W (32768 * (p 0).val) 2048 (ixA (p 1) (p 2))

/-- Row `w` of the partial results. -/
def rowSet (w : ℕ) : Finset S32x256x256.Idx := Finset.univ.filter fun p => (p 0).val = w

/-- Row `w` of the partial results, as the task that writes it names it. -/
abbrev slab (o : Fin 3 → ℕ) (ho : ∀ a, o a + S1x256x256.size a ≤ S32x256x256.size a) : Memref sig .scVector .hbm S256x256 .f32 :=
  (pV.slice (Rect.unit (s := S32x256x256) o S1x256x256.size ho) (fun _ => rfl)).squeeze S256x256 squeezes_S1x256x256_S256x256

theorem emb_slab (w : ℕ) (o : Fin 3 → ℕ) (ho) (hoff : o = ![w, 0, 0]) (y : S256x256.Idx) (a : Fin 3) :
    (((slab o ho).view.emb y) a).val = (![w, (y 0).val, (y 1).val] : Fin 3 → ℕ) a := by
  subst hoff
  show ((Rect.unit (s := S32x256x256) ![w, 0, 0] S1x256x256.size ho).emb (Shape.reshapeEquiv squeezes_S1x256x256_S256x256.numel_eq y) a).val = _
  rw [Shape.reshapeEquiv_cons_one (n := 2) (d := ![256, 256])]
  rw [Rect.emb_apply]
  match a with
  | 0 => show w + 1 * 0 = w; omega
  | 1 => show 0 + 1 * (y 0).val = (y 0).val; omega
  | 2 => show 0 + 1 * (y 1).val = (y 1).val; omega

theorem set_slab (w : ℕ) (o : Fin 3 → ℕ) (ho) (hoff : o = ![w, 0, 0]) : (slab o ho).view.set = rowSet w := by
  ext p
  rw [rowSet, Finset.mem_filter]
  constructor
  · intro h
    obtain ⟨y, -, rfl⟩ := Finset.mem_map.mp h
    exact ⟨Finset.mem_univ _, emb_slab w o ho hoff y 0⟩
  · rintro ⟨-, h⟩
    refine Finset.mem_map.mpr ⟨ixA (p 1) (p 2), Finset.mem_univ _, ?_⟩
    funext a
    apply Fin.ext
    rw [emb_slab w o ho hoff]
    match a with
    | 0 => exact h.symm
    | 1 => rfl
    | 2 => rfl

/-- The accumulator copied out leaves the task's row at the partial result. -/
theorem land_P (w : ℕ) (o : Fin 3 → ℕ) (ho) (hoff : o = ![w, 0, 0]) (I : Vec F S2x1048576 .i32) (W : Vec F S1048576 .f32) (fd : Vec F S32x256x256 .f32) :
    ∀ p ∈ (slab o ho).view.set, (slab o ho).view.write (Elt F) fd ((sA).view.read (Elt F) (accAfter I W (32768 * w) 2048)) Finset.univ p = partials I W p := by
  intro p hp
  obtain ⟨y, -, rfl⟩ := Finset.mem_map.mp hp
  rw [View.write_emb_of_mem _ _ (Finset.mem_univ y)]
  have e0 : (((slab o ho).view.emb y) 0).val = w := emb_slab w o ho hoff y 0
  have e1 : ((slab o ho).view.emb y) 1 = y 0 := Fin.ext (emb_slab w o ho hoff y 1)
  have e2 : ((slab o ho).view.emb y) 2 = y 1 := Fin.ext (emb_slab w o ho hoff y 2)
  show accAfter I W (32768 * w) 2048 y = accAfter I W (32768 * (((slab o ho).view.emb y) 0).val) 2048 (ixA (((slab o ho).view.emb y) 1) (((slab o ho).view.emb y) 2))
  rw [e0, e1, e2]
  congr 1
  funext a
  match a with
  | 0 => rfl
  | 1 => rfl

/-! ## The task's own storage -/

section tile

variable (d : Dev nD) (L : grid0.Coords)

/-- The five counters of the task: one per kind of copy and buffer, and the one of the copy out. -/
abbrev q0 : DmaSem sig := semAt cc0_scratch3 0 inb_S2_S1_0
abbrev q1 : DmaSem sig := semAt cc0_scratch4 0 inb_S2_S1_0
abbrev q2 : DmaSem sig := semAt cc0_scratch3 1 inb_S2_S1_1
abbrev q3 : DmaSem sig := semAt cc0_scratch4 1 inb_S2_S1_1
abbrev q4 : DmaSem sig := cc0_scoped0.sem

/-- A counter of the task, as a cell of the machine. -/
abbrev cell (a : DmaSem sig) : GSem nD τ sig := (thr d L, .dma a)

theorem cell_ne (a b : DmaSem sig) (h : a ≠ b) : cell d L a ≠ cell d L b :=
  fun e => h (by injection e with _ e; injection e)

theorem cell_own (a : DmaSem sig) (h : (SemLoc.dma a : SemLoc sig).isScoped .scVector = true) :
    cell d L a ∈ ownCells (thr d L) := mem_ownCells.mpr ⟨rfl, h⟩

/-- The task's counters are the five, and the rest. -/
theorem ownSems0_V :
    (ownSems0 (thr d L) : sProp 𝕄)
      = iprop(semVal (cell d L q0) 0 ∗ semVal (cell d L q1) 0 ∗ semVal (cell d L q2) 0 ∗ semVal (cell d L q3) 0 ∗ semVal (cell d L q4) 0
          ∗ bigSep ((((((ownCells (thr d L)).erase (cell d L q0)).erase (cell d L q1)).erase (cell d L q2)).erase (cell d L q3)).erase (cell d L q4))
              fun g => semVal g 0) := by
  unfold SparseCore.Cfg.ownSems0
  rw [SparseCore.bigSep_erase' (cell_own d L q0 (by decide)),
    SparseCore.bigSep_erase' (Finset.mem_erase.mpr ⟨cell_ne d L q1 q0 (by decide), cell_own d L q1 (by decide)⟩),
    SparseCore.bigSep_erase' (Finset.mem_erase.mpr ⟨cell_ne d L q2 q1 (by decide), Finset.mem_erase.mpr ⟨cell_ne d L q2 q0 (by decide), cell_own d L q2 (by decide)⟩⟩),
    SparseCore.bigSep_erase' (Finset.mem_erase.mpr ⟨cell_ne d L q3 q2 (by decide), Finset.mem_erase.mpr ⟨cell_ne d L q3 q1 (by decide),
      Finset.mem_erase.mpr ⟨cell_ne d L q3 q0 (by decide), cell_own d L q3 (by decide)⟩⟩⟩),
    SparseCore.bigSep_erase' (Finset.mem_erase.mpr ⟨cell_ne d L q4 q3 (by decide), Finset.mem_erase.mpr ⟨cell_ne d L q4 q2 (by decide),
      Finset.mem_erase.mpr ⟨cell_ne d L q4 q1 (by decide), Finset.mem_erase.mpr ⟨cell_ne d L q4 q0 (by decide), cell_own d L q4 (by decide)⟩⟩⟩⟩)]

/-- The task's scratch buffers are among its own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The index scratch is its two buffers. -/
theorem split_I : (iprop(∃ f, (thr d L).loc cc0_scratch1 ↦{fullShare} f) : sProp 𝕄)
    ⊢ iprop(someI d L 0 inb_S2x2x4096_S1x2x4096_0_0_0 ∗ someI d L 1 inb_S2x2x4096_S1x2x4096_1_0_0) := by
  have hu : (Finset.univ : Finset S2x2x4096.Idx) \ (halfI 0 inb_S2x2x4096_S1x2x4096_0_0_0).view.set = (halfI 1 inb_S2x2x4096_S1x2x4096_1_0_0).view.set := by
    ext p
    have h0 : (p 0).val < 2 := (p 0).isLt
    rw [Finset.mem_sdiff, mem_halfI, mem_halfI]
    simp only [Finset.mem_univ, true_and]
    omega
  iintro ⟨%f, H⟩
  ihave H := (pointsTo_split_subset (ℓ := (thr d L).loc cc0_scratch1) (q := fullShare) (f := f)
    (Finset.subset_univ (halfI 0 inb_S2x2x4096_S1x2x4096_0_0_0).view.set)).1 $$ H
  icases H with ⟨H0, H1⟩
  isplitl [H0]
  · iexists f; iexact H0
  · iexists f
    iapply (Entails.of_eq (congrArg (fun S => ((thr d L).loc cc0_scratch1 ↦[S]{fullShare} f : sProp 𝕄)) hu)) $$ H1

theorem join_I : (iprop(someI d L 0 inb_S2x2x4096_S1x2x4096_0_0_0 ∗ someI d L 1 inb_S2x2x4096_S1x2x4096_1_0_0) : sProp 𝕄)
    ⊢ iprop(∃ f, (thr d L).loc cc0_scratch1 ↦{fullShare} f) := by
  have hd : Disjoint (halfI 0 inb_S2x2x4096_S1x2x4096_0_0_0).view.set (halfI 1 inb_S2x2x4096_S1x2x4096_1_0_0).view.set := by
    rw [Finset.disjoint_left]
    intro p h0 h1
    rw [mem_halfI] at h0 h1
    omega
  have hu : (halfI 0 inb_S2x2x4096_S1x2x4096_0_0_0).view.set ∪ (halfI 1 inb_S2x2x4096_S1x2x4096_1_0_0).view.set = Finset.univ := by
    ext p
    have h0 : (p 0).val < 2 := (p 0).isLt
    rw [Finset.mem_union, mem_halfI, mem_halfI]
    simp only [Finset.mem_univ, iff_true]
    omega
  iintro ⟨⟨%f, H0⟩, ⟨%g, H1⟩⟩
  ihave H := (pointsTo_join (ℓ := (thr d L).loc cc0_scratch1) (q := fullShare) (f := f) (g := g) hd) $$ [H0 H1]
  · isplitl [H0] <;> iassumption
  iexists _
  iapply (Entails.of_eq (congrArg (fun S => ((thr d L).loc cc0_scratch1 ↦[S]{fullShare} _ : sProp 𝕄)) hu)) $$ H

/-- The value scratch is its two buffers. -/
theorem split_W : (iprop(∃ f, (thr d L).loc cc0_scratch2 ↦{fullShare} f) : sProp 𝕄)
    ⊢ iprop(someW d L 0 inb_S2x4096_S1x4096_0_0 ∗ someW d L 1 inb_S2x4096_S1x4096_1_0) := by
  have hu : (Finset.univ : Finset S2x4096.Idx) \ (halfW 0 inb_S2x4096_S1x4096_0_0).view.set = (halfW 1 inb_S2x4096_S1x4096_1_0).view.set := by
    ext p
    have h0 : (p 0).val < 2 := (p 0).isLt
    rw [Finset.mem_sdiff, mem_halfW, mem_halfW]
    simp only [Finset.mem_univ, true_and]
    omega
  iintro ⟨%f, H⟩
  ihave H := (pointsTo_split_subset (ℓ := (thr d L).loc cc0_scratch2) (q := fullShare) (f := f)
    (Finset.subset_univ (halfW 0 inb_S2x4096_S1x4096_0_0).view.set)).1 $$ H
  icases H with ⟨H0, H1⟩
  isplitl [H0]
  · iexists f; iexact H0
  · iexists f
    iapply (Entails.of_eq (congrArg (fun S => ((thr d L).loc cc0_scratch2 ↦[S]{fullShare} f : sProp 𝕄)) hu)) $$ H1

theorem join_W : (iprop(someW d L 0 inb_S2x4096_S1x4096_0_0 ∗ someW d L 1 inb_S2x4096_S1x4096_1_0) : sProp 𝕄)
    ⊢ iprop(∃ f, (thr d L).loc cc0_scratch2 ↦{fullShare} f) := by
  have hd : Disjoint (halfW 0 inb_S2x4096_S1x4096_0_0).view.set (halfW 1 inb_S2x4096_S1x4096_1_0).view.set := by
    rw [Finset.disjoint_left]
    intro p h0 h1
    rw [mem_halfW] at h0 h1
    omega
  have hu : (halfW 0 inb_S2x4096_S1x4096_0_0).view.set ∪ (halfW 1 inb_S2x4096_S1x4096_1_0).view.set = Finset.univ := by
    ext p
    have h0 : (p 0).val < 2 := (p 0).isLt
    rw [Finset.mem_union, mem_halfW, mem_halfW]
    simp only [Finset.mem_univ, iff_true]
    omega
  iintro ⟨⟨%f, H0⟩, ⟨%g, H1⟩⟩
  ihave H := (pointsTo_join (ℓ := (thr d L).loc cc0_scratch2) (q := fullShare) (f := f) (g := g) hd) $$ [H0 H1]
  · isplitl [H0] <;> iassumption
  iexists _
  iapply (Entails.of_eq (congrArg (fun S => ((thr d L).loc cc0_scratch2 ↦[S]{fullShare} _ : sProp 𝕄)) hu)) $$ H

variable (I : Vec F S2x1048576 .i32) (W : Vec F S1048576 .f32)

/-- Where chunk `r` of the task's run of the index array, and of the values, begins. -/
theorem off_I (r : Fin 8) : k0_off1 L (BitVec.ofNat 32 (4096 * r.val)) = ![0, 32768 * wid L + 4096 * r.val] := by
  rw [k0_off1_eq]
  unfold wid
  rw [show 65536 * (L 1).val + 32768 * (L 0).val + 4096 * r.val = 32768 * (2 * (L 1).val + (L 0).val) + 4096 * r.val by ring]

theorem off_W (r : Fin 8) : k0_off2 L (BitVec.ofNat 32 (4096 * r.val)) = ![32768 * wid L + 4096 * r.val] := by
  rw [k0_off2_eq]
  unfold wid
  rw [show 65536 * (L 1).val + 32768 * (L 0).val + 4096 * r.val = 32768 * (2 * (L 1).val + (L 0).val) + 4096 * r.val by ring]

/-- Where the task's row of the partial results begins. -/
theorem off_P : k0_off43 L = ![wid L, 0, 0] := k0_off43_eq L

/-- Chunk `r` lies inside the list of nonzeros. -/
theorem chunk_le (r : Fin 8) : 32768 * wid L + 4096 * r.val + 4096 ≤ 1048576 := by
  have h := wid_lt L
  have h' := r.isLt
  omega

theorem owing_of (O : CellTallies nD τ sig (HIx 1)) (W' : Waits sig (HIx 1)) : (owes (thr d L) O W' : sProp 𝕄) ⊢ owing d L O W' := by
  unfold owing
  iintro H
  iexists W'
  isplitr
  · ipureintro; exact fun p hp => Or.inl hp
  · iexact H

/-- What a task is handed of the arrays: a read share of the index array and of the values, and its row of the partial
    results at contents `g`. -/
abbrev tileRes (q : PosShare TreeShare) (g : Vec F S32x256x256 .f32) : sProp 𝕄 :=
  iprop((iLoc d ↦{q} I) ∗ (wLoc d ↦{q} W) ∗ (pLoc d ↦[rowSet (wid L)]{fullShare} g))

/-- The copy out: the accumulator goes to the task's row of the partial results, and the task waits for it. -/
theorem wp_out {α : Type} {o : Fin 3 → ℕ} {ho} {sm : DmaSem sig} {hsrc : sA.view.WordExact} {hdst : (slab o ho).view.WordExact}
    {hsem : DmaTarget.Typed (nD := nD) .vmem (.dma sm) (.here (p := (thr d L).2) (slab o ho))}
    {hsrc' : sA.view.WordExact} {hdst' : (slab o ho).view.WordExact}
    {kk : PUnit → Prog (TpuEff nD τ sig (Elt F) Λ₀ (thr d L).2) α} {Q : α → sProp 𝕄}
    (hoff : o = ![wid L, 0, 0]) (g : Vec F S32x256x256 .f32) (O : CellTallies nD τ sig (HIx 1)) (W' : Waits sig (HIx 1)) :
    iprop(accIs d L (accAfter I W (32768 * wid L) 2048) ∗ (pLoc d ↦[rowSet (wid L)]{fullShare} g) ∗ semVal ((thr d L), .dma sm) 0
        ∗ owing d L O W' ∗ Transfers.MayWaits (thr d L) (none : HIx 1) O)
      ⊢ (iprop((iprop(accIs d L (accAfter I W (32768 * wid L) 2048) ∗ (pLoc d ↦[rowSet (wid L)]{fullShare} partials I W)
              ∗ semVal ((thr d L), .dma sm) 0 ∗ owing d L O W')
            -∗ wp frame (wpE (defs₀ (F := F)) 𝒱₀ (thr d L) none) Set.univ (kk ⟨⟩) Q)
          -∗ wp frame (wpE (defs₀ (F := F)) 𝒱₀ (thr d L) none) Set.univ
              (.op (.enqueueDma sA (.here (slab o ho)) (.dma sm) hsrc hdst hsem) fun _ =>
                .op (.waitDma2 sm sA (slab o ho) hsrc' hdst') kk) Q) : sProp 𝕄) := by
  iintro ⟨Ha, Hp, Hv, Ho, #Hmw⟩ Hk
  rw [← set_slab (wid L) o ho hoff]
  iapply (wp_start (c := thr d L) (src := sA) (dst := slab o ho) (f' := partials I W) (fd := g) (fs := accAfter I W (32768 * wid L) 2048)
    Finset.univ (Finset.subset_univ _) _ rfl (View.amount_pos _ _ (by decide)) (land_P (wid L) o ho hoff I W g)) $$ [Ha Hp Hv]
  · isplitl [Ha]; · iexact Ha
    isplitl [Hp] <;> iassumption
  iintro Hf
  iapply (wp_wait rfl) $$ [Hf Ho]
  · isplitl [Hf]; · iexact Hf
    isplitl [Ho]; · iexact Ho
    iexact Hmw
  iintro ⟨⟨Hp, Ha⟩, Hv, Ho⟩
  iapply Hk
  isplitl [Ha]; · iexact Ha
  isplitl [Hp]; · iexact Hp
  isplitl [Hv] <;> iassumption

/-- THE TASK: from its shares of the arrays and its row of the partial results at any contents, it ends with the shares
    as they were and the row at the partial result of its run of the nonzeros. -/
theorem tile_body (hF : (K (F := F)).Facts) (hI : InRange I) (q : PosShare TreeShare) (g : Vec F S32x256x256 .f32)
    (O : CellTallies nD τ sig (HIx 1)) (W' : Waits sig (HIx 1)) (hO : ∀ g, O g none = 0) :
    iprop(levAts (K (F := F)).L (K (F := F)).lev ∗ tileRes d L I W q g
        ∗ scopedBufs (thr d L) ∗ scopedSems0 (thr d L) ∗ owes (thr d L) O W')
      ⊢ (wp frame (wpE (defs₀ (F := F)) 𝒱₀ (thr d L) none) Set.univ
          (cc0__sc_accum_body L iV (Memref.isWhole_whole _) wV (Memref.isWhole_whole _) pV (Memref.isWhole_whole _)
            sA (Memref.isWhole_whole _) sI (Memref.isWhole_whole _) sW (Memref.isWhole_whole _) cc0_scratch3 cc0_scratch4 cc0_scoped0)
          fun _ => iprop(tileRes d L I W q (partials I W)
            ∗ scopedBufs (thr d L) ∗ scopedSems0 (thr d L) ∗ owing d L O W') : sProp 𝕄) := by
  simp only [cc0__sc_accum_body_eq_skeleton]; unfold cc0__sc_accum_body_skel
  rw [k0_part11_eq_skeleton]; unfold k0_part11_skel
  simp only [k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton]
  unfold k0_part2_skel k0_part3_skel k0_part4_skel k0_part5_skel k0_part6_skel k0_part7_skel k0_part8_skel k0_part9_skel k0_part10_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_V, ownBufs_V]
  iintro ⟨#Hlv, ⟨Hi, Hw, Hp⟩, ⟨⟨%f, Ha⟩, Hsi, Hsw, Hbufs⟩, ⟨Hq0, Hq1, Hq2, Hq3, Hq4, Hsems⟩, HO⟩
  ihave #Hmw := ((K (F := F)).mayWaits_none (thr := thr d L) hO) $$ Hlv
  ihave Hsi := (split_I d L) $$ Hsi
  icases Hsi with ⟨Hsi0, Hsi1⟩
  ihave Hsw := (split_W d L) $$ Hsw
  icases Hsw with ⟨Hsw0, Hsw1⟩
  ihave Hi := (pointsTo_share (PosShare.mem_left_op_right q)).1 $$ Hi
  icases Hi with ⟨Hi0, Hi1⟩
  ihave Hw := (pointsTo_share (PosShare.mem_left_op_right q)).1 $$ Hw
  icases Hw with ⟨Hw0, Hw1⟩
  -- the first chunk's copies start, and the accumulator is zeroed
  iapply (wp_fill (q := q.left) I W _ (chunk_le L 0) (off_I L 0) (off_W L 0)) $$ [Hi0 Hw0 Hsi0 Hsw0 Hq0 Hq1]
  · isplitl [Hi0 Hsi0 Hq0]
    · isplitl [Hi0]; · iexact Hi0
      isplitl [Hsi0] <;> iassumption
    · isplitl [Hw0]; · iexact Hw0
      isplitl [Hsw0] <;> iassumption
  iintro B0
  iapply (wp_zeros d L I W (32768 * wid L) f) $$ Ha
  iintro Ha
  ihave Ho := (owing_of d L O W') $$ HO
  -- the eight turns
  iapply (wp_fill (q := q.right) I W _ (chunk_le L 1) (off_I L 1) (off_W L 1)) $$ [Hi1 Hw1 Hsi1 Hsw1 Hq2 Hq3]
  · isplitl [Hi1 Hsi1 Hq2]
    · isplitl [Hi1]; · iexact Hi1
      isplitl [Hsi1] <;> iassumption
    · isplitl [Hw1]; · iexact Hw1
      isplitl [Hsw1] <;> iassumption
  iintro B1
  iapply (wp_use (htr := by decide) (32768 * wid L) 0 I W fun t g => wp_trip (dec := k0_chk1.dec) _ t.val (k0_off19_eq t) (k0_off20_eq t) (k0_off21_eq t) I W hI g) $$ [B0 Ha Ho]
  · isplitl [B0]; · iexact B0
    isplitl [Ha]; · iexact Ha
    isplitl [Ho]; · iexact Ho
    iexact Hmw
  iintro ⟨B0, Ha, Ho⟩
  iapply (wp_fill I W _ (chunk_le L 2) (off_I L 2) (off_W L 2)) $$ B0; iintro B0
  iapply (wp_use (htr := by decide) (32768 * wid L) 1 I W fun t g => wp_trip (dec := k0_chk2.dec) _ t.val (k0_off22_eq t) (k0_off23_eq t) (k0_off24_eq t) I W hI g) $$ [B1 Ha Ho]
  · isplitl [B1]; · iexact B1
    isplitl [Ha]; · iexact Ha
    isplitl [Ho]; · iexact Ho
    iexact Hmw
  iintro ⟨B1, Ha, Ho⟩
  iapply (wp_fill I W _ (chunk_le L 3) (off_I L 3) (off_W L 3)) $$ B1; iintro B1
  iapply (wp_use (htr := by decide) (32768 * wid L) 2 I W fun t g => wp_trip (dec := k0_chk3.dec) _ t.val (k0_off25_eq t) (k0_off26_eq t) (k0_off27_eq t) I W hI g) $$ [B0 Ha Ho]
  · isplitl [B0]; · iexact B0
    isplitl [Ha]; · iexact Ha
    isplitl [Ho]; · iexact Ho
    iexact Hmw
  iintro ⟨B0, Ha, Ho⟩
  iapply (wp_fill I W _ (chunk_le L 4) (off_I L 4) (off_W L 4)) $$ B0; iintro B0
  iapply (wp_use (htr := by decide) (32768 * wid L) 3 I W fun t g => wp_trip (dec := k0_chk4.dec) _ t.val (k0_off28_eq t) (k0_off29_eq t) (k0_off30_eq t) I W hI g) $$ [B1 Ha Ho]
  · isplitl [B1]; · iexact B1
    isplitl [Ha]; · iexact Ha
    isplitl [Ho]; · iexact Ho
    iexact Hmw
  iintro ⟨B1, Ha, Ho⟩
  iapply (wp_fill I W _ (chunk_le L 5) (off_I L 5) (off_W L 5)) $$ B1; iintro B1
  iapply (wp_use (htr := by decide) (32768 * wid L) 4 I W fun t g => wp_trip (dec := k0_chk5.dec) _ t.val (k0_off31_eq t) (k0_off32_eq t) (k0_off33_eq t) I W hI g) $$ [B0 Ha Ho]
  · isplitl [B0]; · iexact B0
    isplitl [Ha]; · iexact Ha
    isplitl [Ho]; · iexact Ho
    iexact Hmw
  iintro ⟨B0, Ha, Ho⟩
  iapply (wp_fill I W _ (chunk_le L 6) (off_I L 6) (off_W L 6)) $$ B0; iintro B0
  iapply (wp_use (htr := by decide) (32768 * wid L) 5 I W fun t g => wp_trip (dec := k0_chk6.dec) _ t.val (k0_off34_eq t) (k0_off35_eq t) (k0_off36_eq t) I W hI g) $$ [B1 Ha Ho]
  · isplitl [B1]; · iexact B1
    isplitl [Ha]; · iexact Ha
    isplitl [Ho]; · iexact Ho
    iexact Hmw
  iintro ⟨B1, Ha, Ho⟩
  iapply (wp_fill I W _ (chunk_le L 7) (off_I L 7) (off_W L 7)) $$ B1; iintro B1
  iapply (wp_use (htr := by decide) (32768 * wid L) 6 I W fun t g => wp_trip (dec := k0_chk7.dec) _ t.val (k0_off37_eq t) (k0_off38_eq t) (k0_off39_eq t) I W hI g) $$ [B0 Ha Ho]
  · isplitl [B0]; · iexact B0
    isplitl [Ha]; · iexact Ha
    isplitl [Ho]; · iexact Ho
    iexact Hmw
  iintro ⟨B0, Ha, Ho⟩
  iapply (wp_use (htr := by decide) (32768 * wid L) 7 I W fun t g => wp_trip (dec := k0_chk8.dec) _ t.val (k0_off40_eq t) (k0_off41_eq t) (k0_off42_eq t) I W hI g) $$ [B1 Ha Ho]
  · isplitl [B1]; · iexact B1
    isplitl [Ha]; · iexact Ha
    isplitl [Ho]; · iexact Ho
    iexact Hmw
  iintro ⟨B1, Ha, Ho⟩
  -- the accumulator goes out to the task's row
  iapply (wp_out d L I W (off_P L) g O W') $$ [Ha Hp Hq4 Ho]
  · isplitl [Ha]; · iexact Ha
    isplitl [Hp]; · iexact Hp
    isplitl [Hq4]; · iexact Hq4
    isplitl [Ho]; · iexact Ho
    iexact Hmw
  iintro ⟨Ha, Hp, Hq4, Ho⟩
  rw [wp_ret]; imodintro
  icases B0 with ⟨⟨Hi0, Hsi0, Hq0⟩, ⟨Hw0, Hsw0, Hq1⟩⟩
  icases B1 with ⟨⟨Hi1, Hsi1, Hq2⟩, ⟨Hw1, Hsw1, Hq3⟩⟩
  isplitl [Hi0 Hi1 Hw0 Hw1 Hp]
  · isplitl [Hi0 Hi1]
    · iapply (pointsTo_share (PosShare.mem_left_op_right q)).2
      isplitl [Hi0] <;> iassumption
    isplitl [Hw0 Hw1]
    · iapply (pointsTo_share (PosShare.mem_left_op_right q)).2
      isplitl [Hw0] <;> iassumption
    iexact Hp
  isplitl [Ha Hsi0 Hsi1 Hsw0 Hsw1 Hbufs]
  · isplitl [Ha]; · iexists _; iexact Ha
    isplitl [Hsi0 Hsi1]
    · iapply (join_I d L)
      isplitl [Hsi0] <;> iassumption
    isplitl [Hsw0 Hsw1]
    · iapply (join_W d L)
      isplitl [Hsw0] <;> iassumption
    iexact Hbufs
  isplitr [Ho]
  · isplitl [Hq0]; · iexact Hq0
    isplitl [Hq1]; · iexact Hq1
    isplitl [Hq2]; · iexact Hq2
    isplitl [Hq3]; · iexact Hq3
    isplitl [Hq4] <;> iassumption
  iexact Ho

end tile

end Cert.Proof.Acc

end
-- ==== Proof.Launch.lean ====
/- What the launch hands each vector subcore and takes back, and the split of the arrays among the 32 tasks. -/
module

public import proofs.«01_k».proof.Proof.Tile
public import proofs.«01_k».proof.Proof.Gen.KernelIdeal.Launch

@[expose] public section

noncomputable section

namespace Cert.Proof.Acc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## What a task is handed -/

def coordsV (c : Fin (grid0.bound 0)) (s : Fin (grid0.bound 1)) : grid0.Coords :=
  fun | 0 => c | 1 => s | ⟨_ + 2, h⟩ => absurd h (Nat.not_lt.2 (Nat.le_add_left _ _))

/-- The share of the index array and of the values that goes to the task at coordinates `L`. -/
def shareOf (L : grid0.Coords) : PosShare TreeShare := Transfers.shareTok fullShare 32 ⟨wid L, wid_lt L⟩

/-- The partial results as the tasks leave them, on device `d`. -/
abbrev partialsOf (d : Dev nD) : Vec F S32x256x256 .f32 := partials (m (iLoc d)) (m (wLoc d))

/-- What the task at coordinates `L` holds while its row of the partial results is at `g`. -/
abbrev taskRes (d : Dev nD) (g : Vec F S32x256x256 .f32) (L : grid0.Coords) : sProp 𝕄 :=
  tileRes d L (m (iLoc d)) (m (wLoc d)) (shareOf L) g

/-- The call takes every task's part of the arrays, the partial results as the launch left them, and brings it back
    with the task's partial result in place. -/
def P : (K (F := F)).Pay (nD := nD) (Val := Elt F) (Name := ℕ) (U := UU) where
  st := fun q d c => match q with
    | 0 => bigSep Finset.univ fun i : Fin (grid0.bound 1) => taskRes m d (m (pLoc d)) (coordsV c i)
  dn := fun q d c => match q with
    | 0 => bigSep Finset.univ fun i : Fin (grid0.bound 1) => taskRes m d (partialsOf m d) (coordsV c i)
  go := fun q d c i => match q with | 0 => taskRes m d (m (pLoc d)) (coordsV c i)
  td := fun q d c i => match q with | 0 => taskRes m d (partialsOf m d) (coordsV c i)
  x := fun _ _ => iprop(emp)

instance P_storable : (P (F := F) m).IsStorable where
  st q d c := match q with
    | 0 => (by unfold taskRes tileRes; infer_instance : BI.Storable (upEmb : UEmb _ 𝕄)
        (bigSep Finset.univ fun i : Fin (grid0.bound 1) => taskRes m d (m (pLoc d)) (coordsV c i)))
  dn q d c := match q with
    | 0 => (by unfold taskRes tileRes; infer_instance : BI.Storable (upEmb : UEmb _ 𝕄)
        (bigSep Finset.univ fun i : Fin (grid0.bound 1) => taskRes m d (partialsOf m d) (coordsV c i)))
  go q d c i := match q with
    | 0 => (by unfold taskRes tileRes; infer_instance : BI.Storable (upEmb : UEmb _ 𝕄) (taskRes m d (m (pLoc d)) (coordsV c i)))
  td q d c i := match q with
    | 0 => (by unfold taskRes tileRes; infer_instance : BI.Storable (upEmb : UEmb _ 𝕄) (taskRes m d (partialsOf m d) (coordsV c i)))

/-! ## The launch theorem's obligations -/

theorem defs₀_vector (c : Fin τ.nSC) (s : Fin τ.nSub) :
    defs₀ (F := F) (.scVector c s) 0 ()
      = SparseCore.onTile hcore0 hsub0 (fun c s => cc0__sc_accum_body (coordsV c s)
          iV (Memref.isWhole_whole _) wV (Memref.isWhole_whole _) pV (Memref.isWhole_whole _)
          sA (Memref.isWhole_whole _) sI (Memref.isWhole_whole _) sW (Memref.isWhole_whole _) cc0_scratch3 cc0_scratch4 cc0_scoped0) ⟨⟩ c s := rfl

omit [FloatOps F] in
theorem obl_post {d : Dev nD} {L : grid0.Coords} {A B C : sProp 𝕄} {O : CellTallies nD τ sig (HIx 1)} {W : Waits sig (HIx 1)} {q : Fin 1} :
    iprop(A ∗ B ∗ C ∗ owing d L O W)
      ⊢ iprop(A ∗ B ∗ C ∗ ∃ W', ⌜∀ p ∈ W', p ∈ W ∨ p.2 = none ∨ p.2 = some q⌝ ∗ owes (thr d L) O W') := by
  unfold owing
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem drop_emp {A B : sProp 𝕄} : iprop(A ∗ emp ∗ B) ⊢ iprop(A ∗ B) := by
  iintro ⟨HA, -, HB⟩
  isplitl [HA] <;> iassumption

/-- Every task of the call runs from what it is handed to what it brings back. -/
theorem tileObl (hF : (K (F := F)).Facts) (hI : ∀ d, InRange (m (iLoc d))) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact BI.Entails.trans drop_emp ((tile_body d (coordsV ⟨_, hc.1⟩ ⟨_, hc.2⟩) (m (iLoc d)) (m (wLoc d)) hF (hI d) (shareOf (coordsV ⟨_, hc.1⟩ ⟨_, hc.2⟩))
    (m (pLoc d)) O W hO).trans (wp_mono frame _ _ fun _ => obl_post (q := 0)))

/-- A SparseCore's part is its tasks' parts. -/
theorem vecSplit : (K (F := F)).VecSplit' (P m) 0 := by
  intro d c
  show (bigSep Finset.univ fun i : Fin (grid0.bound 1) => taskRes m d (m (pLoc d)) (coordsV c i)) ⊢ |={Set.univ}=> iprop(
      (bigSep Finset.univ fun i : Fin (grid0.bound 1) => taskRes m d (m (pLoc d)) (coordsV c i))
      ∗ ((bigSep Finset.univ fun i : Fin (grid0.bound 1) => taskRes m d (partialsOf m d) (coordsV c i))
          -∗ (bigSep Finset.univ fun i : Fin (grid0.bound 1) => taskRes m d (partialsOf m d) (coordsV c i))))
  iintro H; imodintro
  isplitl [H]; · iexact H
  iintro H; iexact H

/-! ## The arrays split among the tasks -/

/-- The 32 tasks by core and subcore, numbered as the program numbers them. -/
def taskEquiv : Fin (grid0.bound 0) × Fin (grid0.bound 1) ≃ Fin 32 :=
  (Equiv.prodComm _ _).trans (finProdFinEquiv (m := 16) (n := 2))

theorem taskEquiv_val (c : Fin (grid0.bound 0)) (s : Fin (grid0.bound 1)) : taskEquiv (c, s) = ⟨wid (coordsV c s), wid_lt _⟩ := by
  apply Fin.ext
  show c.val + 2 * s.val = 2 * s.val + c.val
  omega

/-- A statement of every task, by core and subcore. -/
theorem bigSep_tasks (Φ : Fin 32 → sProp 𝕄) :
    bigSep Finset.univ Φ = bigSep Finset.univ fun c : Fin (grid0.bound 0) => bigSep Finset.univ fun s : Fin (grid0.bound 1) =>
      Φ ⟨wid (coordsV c s), wid_lt _⟩ := by
  rw [BI.bigSep_univ_equiv taskEquiv, BI.bigSep_univ_prod]
  exact bigSep_congr fun c _ => bigSep_congr fun s _ => congrArg Φ (taskEquiv_val c s)

theorem rows_disjoint : ∀ i ∈ (Finset.univ : Finset (Fin 32)), ∀ j ∈ (Finset.univ : Finset (Fin 32)), i ≠ j → Disjoint (rowSet i.val) (rowSet j.val) := by
  intro i _ j _ h
  refine Finset.disjoint_left.mpr fun p hp hq => h (Fin.ext ?_)
  exact ((Finset.mem_filter.mp hp).2).symm.trans (Finset.mem_filter.mp hq).2

theorem rows_cover : (Finset.univ : Finset (Fin 32)).biUnion (fun i => rowSet i.val) = Finset.univ := by
  ext p
  simp only [Finset.mem_biUnion, Finset.mem_univ, true_and, iff_true]
  exact ⟨p 0, Finset.mem_filter.mpr ⟨Finset.mem_univ _, rfl⟩⟩

/-- The partial results whole are their 32 rows. -/
theorem partials_rows (d : Dev nD) (g : Buf (Elt F) (pLoc d)) :
    (pLoc d ↦{fullShare} g : sProp 𝕄) = bigSep Finset.univ fun i : Fin 32 => pLoc d ↦[rowSet i.val]{fullShare} g := by
  rw [← pointsTo_biUnion Finset.univ (ℓ := pLoc d) (fun i : Fin 32 => rowSet i.val) rows_disjoint, rows_cover]

/-- What the TensorCore keeps of the index array and the values while the tasks run. -/
abbrev keptRes (d : Dev nD) : sProp 𝕄 :=
  iprop((iLoc d ↦{Transfers.shareDrop fullShare 32} m (iLoc d)) ∗ (wLoc d ↦{Transfers.shareDrop fullShare 32} m (wLoc d)))

/-- The three arrays whole are every task's part of them and what the TensorCore keeps. -/
theorem arrays_tasks (d : Dev nD) (g : Buf (Elt F) (pLoc d)) :
    (iprop((iLoc d ↦{fullShare} m (iLoc d)) ∗ (wLoc d ↦{fullShare} m (wLoc d)) ∗ (pLoc d ↦{fullShare} g)) : sProp 𝕄)
      ⊣⊢ iprop(keptRes m d ∗ bigSep Finset.univ fun c : Fin (grid0.bound 0) => bigSep Finset.univ fun s : Fin (grid0.bound 1) =>
          taskRes m d g (coordsV c s)) := by
  have e : (bigSep Finset.univ fun c : Fin (grid0.bound 0) => bigSep Finset.univ fun s : Fin (grid0.bound 1) => taskRes m d g (coordsV c s))
      = (iprop((bigSep Finset.univ fun i : Fin 32 => iLoc d ↦{Transfers.shareTok fullShare 32 i} m (iLoc d))
        ∗ (bigSep Finset.univ fun i : Fin 32 => wLoc d ↦{Transfers.shareTok fullShare 32 i} m (wLoc d))
        ∗ (bigSep Finset.univ fun i : Fin 32 => pLoc d ↦[rowSet i.val]{fullShare} g)) : sProp 𝕄) := by
    rw [← bigSep_sep', ← bigSep_sep', bigSep_tasks]; rfl
  rw [e, partials_rows]
  constructor
  · iintro ⟨Hi, Hw, Hp⟩
    ihave Hi := (Transfers.pointsTo_toks_split fullShare 32) $$ Hi
    icases Hi with ⟨Hi0, Hi⟩
    ihave Hw := (Transfers.pointsTo_toks_split fullShare 32) $$ Hw
    icases Hw with ⟨Hw0, Hw⟩
    isplitl [Hi0 Hw0]
    · isplitl [Hi0]; · iexact Hi0
      iexact Hw0
    isplitl [Hi]; · iexact Hi
    isplitl [Hw]; · iexact Hw
    iexact Hp
  · iintro ⟨⟨Hi0, Hw0⟩, Hi, Hw, Hp⟩
    isplitl [Hi0 Hi]
    · iapply (Transfers.pointsTo_toks_join fullShare 32)
      isplitl [Hi0]; · iexact Hi0
      iexact Hi
    isplitl [Hw0 Hw]
    · iapply (Transfers.pointsTo_toks_join fullShare 32)
      isplitl [Hw0]; · iexact Hw0
      iexact Hw
    iexact Hp

/-! ## The ghost state at launch -/

def u₀ : UU := (initOf (K (F := F)).hsCells (K (F := F)).hsToks,
  (initOf (Pipeline.cells (nD := nD) (τ := τ) cfgs cellOf_inj) (Pipeline.launchToks (nD := nD) (τ := τ) cfgs cellOf_inj), 1))

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
theorem bigSep_none {I : Type} (s : Finset I) : (bigSep s fun _ => iprop(emp)) = (iprop(emp) : sProp 𝕄) := bigSep_emp_const s

/-- What device `d`'s TensorCore is given for its pipeline. -/
abbrev pipeGhost (d : Dev nD) : sProp 𝕄 :=
  iprop(Pipeline.cellsGhost (nD := nD) (τ := τ) cfgs EP 0 d ∗ Pipeline.toksInit (nD := nD) (τ := τ) cfgs EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => pipeGhost d)
        ∗ bigSep Finset.univ fun thr : Thread nD τ => bigSep Finset.univ fun q : Fin 1 => (P m).x q thr) := by
  unfold u₀
  iintro Hu
  ihave H := (ownU_split _ _) $$ Hu
  icases H with ⟨HH, HK⟩
  imod (Pipeline.fund_ghost (nD := nD) (τ := τ) cfgs EP cellOf_inj) $$ HK with ⟨Hg, Ht⟩
  imodintro
  isplitl [HH]; · iexact HH
  isplitl [Hg Ht]
  · rw [bigSep_sep']
    simp only [bigSep_univ_of_subsingleton (0 : Fin 1)]
    isplitl [Hg]; · iexact Hg
    iexact Ht
  · simp only [show ∀ (q : Fin 1) (thr : Thread nD τ), (P (F := F) m).x q thr = iprop(emp) from fun _ _ => rfl, bigSep_none]
    iempintro

end Cert.Proof.Acc

end
-- ==== Proof.Region.lean ====
/- The TensorCore's pipeline: at the first grid point the body sums the partial accumulators, multiplies by the table's
   rows and adds the bias row into the scratch buffer; at every point it writes the scratch buffer's broadcast. -/
module

public import proofs.«01_k».proof.Proof.Tile
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ValueKit
public import Idealize.ShloMosaic.Lib.ValueLayout

@[expose] public section

noncomputable section

namespace Cert.Proof.Acc

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (Dat BodyObligation)

variable {F : FTy → Type} [FloatOps F]

local notation "𝕄" => MT nD τ sig (HIx 1) (Elt F) ℕ UU ℕ

variable [∀ e, Nonempty (Elt F e)]

/-! ## The body -/

theorem zero2 : (![0, 0] : Fin 2 → ℕ) = fun _ => 0 := by decide
theorem zero3 : (![0, 0, 0] : Fin 3 → ℕ) = fun _ => 0 := by decide

/-- What a body's store of a whole buffer leaves there reads as the stored value. -/
theorem read_stored {S : Shape} {off : Fin S.rank → ℕ} (h : off = fun _ => 0) (inb : ∀ a, off a + S.size a ≤ S.size a)
    (v : View sig .tc .vmem S .f32) (f : v.ty.Contents (Elt F)) (w : S.Idx → Elt F .f32) :
    v.read (Elt F) (v.writes (Elt F) f [(⟨Rect.unit off S.size inb, w⟩ : View.Piece (Elt F) S .f32)]) = w := by
  rw [View.read_writes_eq_canon v f _ (fun y => ⟨_, List.mem_singleton_self _, View.mem_set_unit_zero h inb y⟩), View.canon_unit_zero h]

/-- The branch of the first grid point is taken there, -/
theorem first_taken (i : grid1.Coords) (hi : (i 0).val = 0) :
    Scalar.cmpi .ne (Scalar.extui (Scalar.cmpi .eq (BitVec.ofNat 32 (i 0).val) 0#32)) 0#32 = 1#1 := by
  rw [hi]; decide

/-- and at no other. -/
theorem first_not_taken (i : grid1.Coords) (hi : (i 0).val ≠ 0) :
    ¬ Scalar.cmpi .ne (Scalar.extui (Scalar.cmpi .eq (BitVec.ofNat 32 (i 0).val) 0#32)) 0#32 = 1#1 := by
  have h : ∀ k : Fin 16, k.val ≠ 0 → ¬ Scalar.cmpi .ne (Scalar.extui (Scalar.cmpi .eq (BitVec.ofNat 32 k.val) 0#32)) 0#32 = 1#1 := by decide
  exact h (i 0) hi

section
variable (c : Dev nD) (i : grid1.Coords)
  (M0 : Memref sig .tc .vmem S32x256x256 .f32) (h0 : M0.IsWhole) (M1 : Memref sig .tc .vmem S256x256 .f32) (h1 : M1.IsWhole)
  (M2 : Memref sig .tc .vmem S1x256 .f32) (h2 : M2.IsWhole) (M3 : Memref sig .tc .vmem S16x256x256 .f32) (h3 : M3.IsWhole)
  (M5 : Memref sig .tc .vmem S256x256 .f32) (h5 : M5.IsWhole)

/-- At the first grid point the body, from the three staged operands, leaves the result in the scratch buffer and its
    broadcast in the output's staging buffer. -/
theorem body_first (hi : (i 0).val = 0) (X0 : Vec F S32x256x256 .f32) (X1 : Vec F S256x256 .f32) (X2 : Vec F S1x256 .f32)
    (X3 : Vec F S16x256x256 .f32) (X5 : Vec F S256x256 .f32) (Q : PUnit → sProp 𝕄) :
    iprop(owns (c : Thread nD τ) M0 fullShare X0 ∗ owns (c : Thread nD τ) M1 fullShare X1 ∗ owns (c : Thread nD τ) M2 fullShare X2
      ∗ owns (c : Thread nD τ) M3 fullShare X3 ∗ owns (c : Thread nD τ) M5 fullShare X5
      ∗ ((owns (c : Thread nD τ) M0 fullShare X0 ∗ owns (c : Thread nD τ) M1 fullShare X1 ∗ owns (c : Thread nD τ) M2 fullShare X2
          ∗ owns (c : Thread nD τ) M3 fullShare (k1_pay2 (k1_pay1 X0 X1 X2)) ∗ owns (c : Thread nD τ) M5 fullShare (k1_pay1 X0 X1 X2)) -∗ Q ⟨⟩))
      ⊢ wp frame (wpE (defs₀ (F := F)) Variants.none c none) Set.univ (cc1__tc_body (F := F) i M0 h0 M1 h1 M2 h2 M3 h3 M5 h5) Q := by
  rw [cc1__tc_body_eq_skeleton]
  unfold cc1__tc_body_skel owns
  rw [dif_pos (first_taken i hi), h0.set_eq_univ, h1.set_eq_univ, h2.set_eq_univ, h3.set_eq_univ, h5.set_eq_univ]
  iintro ⟨⟨%f0, %e0, H0⟩, ⟨%f1, %e1, H1⟩, ⟨%f2, %e2, H2⟩, ⟨%f3, %e3, H3⟩, ⟨%f5, %e5, H5⟩, Hk⟩
  subst e0 e1 e2
  sl_exec!
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr; swap; (· iexact H3)
    ipureintro
    sl_unfold_words
    rw [read_stored zero3, View.readCov_unit_zero (S := S256x256) _ zero2]
    simp only [View.readAt_eq_ld, View.ld_unit_zero (S := S256x256) zero2, View.ld_unit_zero (S := S1x256) zero2, View.ld_unit_zero (S := S32x256x256) zero3]
  · iexists _; isplitr; swap; (· iexact H5)
    ipureintro
    sl_unfold_words
    rw [read_stored zero2]
    simp only [View.readAt_eq_ld, View.ld_unit_zero (S := S256x256) zero2, View.ld_unit_zero (S := S1x256) zero2, View.ld_unit_zero (S := S32x256x256) zero3]

/-- At every later point it writes the broadcast of what the scratch buffer holds. -/
theorem body_later (hi : (i 0).val ≠ 0) (X3 : Vec F S16x256x256 .f32) (X5 : Vec F S256x256 .f32) (Q : PUnit → sProp 𝕄) :
    iprop(owns (c : Thread nD τ) M3 fullShare X3 ∗ owns (c : Thread nD τ) M5 fullShare X5
      ∗ ((owns (c : Thread nD τ) M3 fullShare (k1_pay2 X5) ∗ owns (c : Thread nD τ) M5 fullShare X5) -∗ Q ⟨⟩))
      ⊢ wp frame (wpE (defs₀ (F := F)) Variants.none c none) Set.univ (cc1__tc_body (F := F) i M0 h0 M1 h1 M2 h2 M3 h3 M5 h5) Q := by
  rw [cc1__tc_body_eq_skeleton]
  unfold cc1__tc_body_skel owns
  rw [dif_neg (first_not_taken i hi), h3.set_eq_univ, h5.set_eq_univ]
  iintro ⟨⟨%f3, %e3, H3⟩, ⟨%f5, %e5, H5⟩, Hk⟩
  subst e5
  sl_exec!
  sl_step
  iapply Hk
  isplitl [H3]
  · iexists _; isplitr; swap; (· iexact H3)
    ipureintro
    sl_unfold_words
    rw [read_stored zero3]
    simp only [View.readAt_eq_ld, View.ld_unit_zero (S := S256x256) zero2]
  · iexists f5; isplitr; · ipureintro; rfl
    iexact H5

end

/-! ## The proof data -/

variable (V : (c : Dev nD) → (b : Ref sig .tc) → Buf (Elt F) ((c : Thread nD τ).loc b))

/-- The scratch buffer from the first point on: the partial accumulators' sum times the table's rows, plus the bias row. -/
def rowsOf (c : Dev nD) : Vec F S256x256 .f32 := k1_pay1 (V c main_v0) (V c main_v1) (V c main_v2)

/-- Before point `t`: the scratch buffer, at anything before the first point and at the result afterwards. -/
def Φc (c : Dev nD) (n : ℕ) : sProp 𝕄 :=
  if n = 0 then Pipeline.scopedRest (Ix := HIx 1) (Name := ℕ) (U := UU) (Lvl := ℕ) (Val := Elt F) spec1 c
  else owns (c : Thread nD τ) (Memref.whole cc1_scratch0) fullShare (rowsOf V c)

/-- The proof data of the pipeline from the valuation `V`: the input windows keep their blocks, the output window holds the
    result's broadcast after every point. -/
def dat (c : Dev nD) : Dat τ (Elt F) (HIx 1) ℕ UU ℕ cfg1 c where
  A w := V c (Pipeline.arrRef spec1 w)
  after w _ := match w with
    | ⟨0, _⟩ => (V c main_v0 : Vec F S32x256x256 .f32)
    | ⟨1, _⟩ => (V c main_v1 : Vec F S256x256 .f32)
    | ⟨2, _⟩ => (V c main_v2 : Vec F S1x256 .f32)
    | ⟨3, _⟩ => (k1_pay2 (rowsOf V c) : Vec F S16x256x256 .f32)
  Φ t := Φc V c t.val
  q _ := fullShare
  owed _ := 0
  recorded _ := {p | (K (F := F)).lev (T c, p.1) p.2 ≤ 8 * 1}

/-- Each input window's one block is its whole array. -/
theorem blk0 (t : Fin cfg1.N) (f : Vec F S32x256x256 .f32) (y : S32x256x256.Idx) : f (((cfg1.win 0).blk t).view.emb y) = f y := by
  congr 1
  funext a
  apply Fin.ext
  blk_simp [show win1_0.index t = ![0, 0, 0] from rfl]
  fin_cases a <;> simp

theorem blk1 (t : Fin cfg1.N) (f : Vec F S256x256 .f32) (y : S256x256.Idx) : f (((cfg1.win 1).blk t).view.emb y) = f y := by
  congr 1
  funext a
  apply Fin.ext
  blk_simp [show win1_1.index t = ![0, 0] from rfl]
  fin_cases a <;> simp

theorem blk2 (t : Fin cfg1.N) (f : Vec F S1x256 .f32) (y : S1x256.Idx) : f (((cfg1.win 2).blk t).view.emb y) = f y := by
  congr 1
  funext a
  apply Fin.ext
  blk_simp [show win1_2.index t = ![0, 0] from rfl]
  fin_cases a <;> simp

/-- What the body finds in each input window's staging buffer: the window's array. -/
theorem before0 (c : Dev nD) (t : Fin cfg1.N) (d) : (dat V c).before 0 t d = (V c main_v0 : Vec F S32x256x256 .f32) :=
  ((dat V c).before_in_eq_fetched 0 rfl (fun _ => rfl) (fun _ _ _ => rfl) (fun t => funext fun y => (blk0 t (V c main_v0) y).symm) t d).trans
    (funext fun y => blk0 t (V c main_v0) y)

theorem before1 (c : Dev nD) (t : Fin cfg1.N) (d) : (dat V c).before 1 t d = (V c main_v1 : Vec F S256x256 .f32) :=
  ((dat V c).before_in_eq_fetched 1 rfl (fun _ => rfl) (fun _ _ _ => rfl) (fun t => funext fun y => (blk1 t (V c main_v1) y).symm) t d).trans
    (funext fun y => blk1 t (V c main_v1) y)

theorem before2 (c : Dev nD) (t : Fin cfg1.N) (d) : (dat V c).before 2 t d = (V c main_v2 : Vec F S1x256 .f32) :=
  ((dat V c).before_in_eq_fetched 2 rfl (fun _ => rfl) (fun _ _ _ => rfl) (fun t => funext fun y => (blk2 t (V c main_v2) y).symm) t d).trans
    (funext fun y => blk2 t (V c main_v2) y)

theorem coords_val : ∀ t : Fin grid1.N, ((grid1.coords t) 0).val = t.val := by decide +kernel

/-- The body at every grid point. -/
theorem body_obligation (c : Dev nD) : BodyObligation (dat V c) (defs₀ (F := F)) 𝒱₀ none Set.univ := fun t => by
  rw [bigSep_W1, bigSep_W1]
  rw [show (dat V c).Φ t.castSucc = Φc V c t.val from rfl, show (dat V c).Φ t.succ = Φc V c (t.val + 1) from rfl,
    show (dat V c).owesAt none t.succ = (dat V c).owesAt none t.castSucc from rfl]
  unfold Φc
  rw [if_neg (Nat.succ_ne_zero _)]
  simp only [before0, before1, before2]
  by_cases ht : t.val = 0
  · rw [if_pos ht, scopedRest1_eq]
    iintro ⟨⟨%g, Hg⟩, Howes, ⟨%d0, H0⟩, ⟨%d1, H1⟩, ⟨%d2, H2⟩, ⟨%d3, H3⟩⟩
    iapply (body_first c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) ((coords_val t).trans ht) (V c main_v0) (V c main_v1) (V c main_v2) ((dat V c).before 3 t d3) g _)
    isplitl [H0]; · iexact H0
    isplitl [H1]; · iexact H1
    isplitl [H2]; · iexact H2
    isplitl [H3]; · iexact H3
    isplitl [Hg]; · rw [owns_whole]; iexact Hg
    iintro ⟨H0, H1, H2, H3, Hg⟩
    isplitl [Hg]; · iexact Hg
    isplitl [Howes]; · iexact Howes
    isplitl [H0]; · iexact H0
    isplitl [H1]; · iexact H1
    isplitl [H2]; · iexact H2
    iexact H3
  · rw [if_neg ht]
    iintro ⟨HΦ, Howes, ⟨%d0, H0⟩, ⟨%d1, H1⟩, ⟨%d2, H2⟩, ⟨%d3, H3⟩⟩
    iapply (body_later c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (fun h => ht ((coords_val t).symm.trans h)) ((dat V c).before 3 t d3) (rowsOf V c) _)
    isplitl [H3]; · iexact H3
    isplitl [HΦ]; · iexact HΦ
    iintro ⟨H3, Hg⟩
    isplitl [Hg]; · iexact Hg
    isplitl [Howes]; · iexact Howes
    isplitl [H0]; · iexact H0
    isplitl [H1]; · iexact H1
    isplitl [H2]; · iexact H2
    iexact H3

/-! ## The output array -/

/-- The whole output: at every first coordinate the result's rows. -/
def outOf (c : Dev nD) : Vec F S256x256x256 .f32 := fun p => rowsOf V c (ixA (p 1) (p 2))

theorem pay2_apply (X : Vec F S256x256 .f32) (y : S16x256x256.Idx) : k1_pay2 X y = X (ixA (y 1) (y 2)) := by
  unfold k1_pay2
  rw [shapeCast_self]
  refine (broadcastTo_apply _ broadcasts_S1x256x256_S16x256x256 y (ValueIdx.ix3 (0 : Fin 1) (y 1) (y 2)) (fun a => by fin_cases a <;> rfl)).trans ?_
  refine (shapeCast_ab_1ab_apply X shapeCasts_S256x256_S1x256x256 (0 : Fin 1) (y 1) (y 2)).trans (congrArg X ?_)
  funext a
  match a with
  | ⟨0, _⟩ => rfl
  | ⟨1, _⟩ => rfl

theorem index3 : ∀ t : Fin cfg1.N, win1_3.index t = ![(grid1.coords t 0).val, 0, 0] :=
  (by decide +kernel : ∀ t : Fin grid1.N, win1_3.index t = ![(grid1.coords t 0).val, 0, 0])

/-- After the last write-back the output array is that. -/
theorem arrAt_out (c : Dev nD) : (dat V c).arrAt 3 cfg1.N = outOf V c := by
  refine Pipeline.Dat.arrAt_eq_of_covers (dat V c) 3 (outOf V c) (by decide +kernel) fun t _ y => ?_
  refine (pay2_apply (rowsOf V c) _).trans ?_
  unfold outOf
  congr 2
  · apply Fin.ext
    blk_simp [index3]
  · apply Fin.ext
    blk_simp [index3]

/-! ## The region of @main -/

/-- The pipeline takes no prefetched table. -/
abbrev adm : (p : Fin 1) → (pcfgs (F := F) p).Adm := fun p => (cfgs p).toPCfg_adm

/-- The proof data of the program's one pipeline. -/
def pdats : (p : Fin 1) → (c : Dev nD) → Dat τ (Elt F) (HIx 1) ℕ UU ℕ (Pipeline.pin (pcfgs (F := F)) adm p) c
  | ⟨0, _⟩ => fun c => dat V c

variable (Vp : (c : Dev nD) → (b : Ref sig .tc) → Buf (Elt F) ((c : Thread nD τ).loc b))

/-- The core owes nothing, and its recorded waits lie at or below the level the SparseCore call left. -/
def quietOwes (c : Dev nD) : sProp 𝕄 :=
  iprop(∃ W, ⌜(K (F := F)).WBelow (T c) W (8 * 1)⌝ ∗ owes (c : Thread nD τ) (0 : CellTallies nD τ sig (HIx 1)) W)

set_option backward.isDefEq.respectTransparency.types false in
/-- The region: entered with every unscoped buffer at `V`, left with them at `Vp`, which differs in the output array only,
    there holding the result. -/
def reg (hVp_out : ∀ c, Vp c main_v3 = outOf V c) (hVp_ne : ∀ c (b : Ref sig .tc), b ≠ main_v3 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ quietOwes c)
  post c := iprop(unscopedBufs c (Vp c) ∗ quietOwes c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    unfold quietOwes
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats V 0 c).Φ 0 = Φc V c 0 from rfl]
    unfold Φc
    rw [if_pos rfl]
    iintro ⟨-, -, Hr⟩; iexact Hr
  hout c := by
    rw [Pipeline.ownSems0_none, show (pdats V 0 c).Φ (Fin.last _) = Φc V c 16 from rfl]
    unfold Φc
    rw [if_neg (by decide), owns_whole]
    iintro Hr
    isplitr; · iempintro
    isplitr; · iempintro
    iapply (Entails.of_eq (scopedRest1_eq c).symm)
    iexists _; iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v0 (by decide)).symm
        · exact ((pdats V 0 c).arrAt_in 1 rfl _).trans (hVp_ne c main_v1 (by decide)).symm
        · exact ((pdats V 0 c).arrAt_in 2 rfl _).trans (hVp_ne c main_v2 (by decide)).symm
        · exact (arrAt_out V c).trans (hVp_out c).symm)
      (fun b hb => hVp_ne c b fun h => hb (h ▸ Finset.mem_image.mpr ⟨3, Finset.mem_univ _, rfl⟩))
    unfold quietOwes
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h, SparseCore.Cfg.lev_none]; exact Nat.zero_le _
    iexact HO

end Cert.Proof.Acc
-- ==== Proof.Main.lean ====
/- The TensorCore's program: the SparseCore call, the two host operations, the pipeline; and the whole run, whose end holds
   the arguments as they were and the result in closed form. -/
module

public import proofs.«01_k».proof.Proof.Launch
public import proofs.«01_k».proof.Proof.Region

@[expose] public section

noncomputable section

namespace Cert.Proof.Acc

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable [∀ e, Nonempty (Elt F e)]
variable (m : (ℓ : Loc nD τ sig) → Buf (Elt F) ℓ) (ρ : Dev nD → PrngReg)

/-! ## What the arrays hold as the program goes -/

/-- The host's slice of the table: its first 256 rows. -/
abbrev sliceOp : HloOp τ sig (Elt F) :=
  StableHlo.unary main_arg0 main_v1 ((extractStridedSlice S256x256 ![0, 0] · slices_S16384x256_S256x256_0_0) : (⟨S16384x256, .f32⟩ : BufTy).Contents (Elt F) → (⟨S256x256, .f32⟩ : BufTy).Contents (Elt F))

/-- The host's reshape of the bias into a row. -/
abbrev rowOp : HloOp τ sig (Elt F) :=
  StableHlo.reshape main_arg3 main_v2 (rfl : (.f32 : EltTy) = .f32) shapeCasts_S256_S1x256

/-- Device `d`'s buffers at the launch. -/
def W0 (d : Dev nD) : Valuation τ sig (Elt F) := fun b => m (d, b)

/-- They once the SparseCore call is over. -/
def W1 (d : Dev nD) : Valuation τ sig (Elt F) := Function.update (W0 m d) (main_v0 : DevRef τ sig) (partialsOf m d)

/-- They once the host operations are over. -/
def W2 (d : Dev nD) : Valuation τ sig (Elt F) := (rowOp (F := F)).result ((sliceOp (F := F)).result (W1 m d))

/-- They as the pipeline finds them, by TensorCore reference. -/
def Vt (d : Dev nD) (b : Ref sig .tc) : Buf (Elt F) ((d : Thread nD τ).loc b) := W2 m d b

/-- They as the pipeline leaves them. -/
def Vfin (d : Dev nD) (b : Ref sig .tc) : Buf (Elt F) ((d : Thread nD τ).loc b) :=
  Function.update (Vt m d) main_v3 (outOf (Vt m) d) b

/-- The whole kernel's result on device `d`. -/
def resultOf (d : Dev nD) : Vec F S256x256x256 .f32 := outOf (Vt m) d

theorem Vfin_out (d : Dev nD) : Vfin m d main_v3 = outOf (Vt m) d := Function.update_self _ _ _

theorem Vfin_ne (d : Dev nD) (b : Ref sig .tc) (h : b ≠ main_v3) : Vfin m d b = Vt m d b := Function.update_of_ne h _ _

/-- The reshape changes its result's buffer only. -/
theorem rowOp_ne (W : Valuation τ sig (Elt F)) (b : Ref sig .tc) (h : b ≠ main_v2) : (rowOp (F := F)).result W b = W b :=
  HloOp.result_of_not_mem _ _ (by rw [StableHlo.reshape_writes, Finset.mem_singleton]; exact StableHlo.devRef_ne_of_ne h)

/-- The slice changes its result's buffer only. -/
theorem sliceOp_ne (W : Valuation τ sig (Elt F)) (b : Ref sig .tc) (h : b ≠ main_v1) : (sliceOp (F := F)).result W b = W b :=
  HloOp.result_of_not_mem _ _ (by rw [StableHlo.unary_writes, Finset.mem_singleton]; exact StableHlo.devRef_ne_of_ne h)

/-- The SparseCore call changes the partial results only. -/
theorem W1_ne (d : Dev nD) (b : Ref sig .tc) (h : b ≠ main_v0) : W1 m d b = m ((d : Thread nD τ).loc b) :=
  (Function.update_of_ne (StableHlo.devRef_ne_of_ne h) _ _).trans rfl

theorem W1_v0 (d : Dev nD) : W1 m d main_v0 = partialsOf m d := Function.update_self _ _ _

/-- What neither the SparseCore call nor a host operation writes is as launched. -/
theorem Vt_kept (d : Dev nD) (b : Ref sig .tc) (h0 : b ≠ main_v0) (h1 : b ≠ main_v1) (h2 : b ≠ main_v2) :
    Vt m d b = m ((d : Thread nD τ).loc b) :=
  (rowOp_ne _ b h2).trans ((sliceOp_ne _ b h1).trans (W1_ne m d b h0))

theorem Vt_v0 (d : Dev nD) : Vt m d main_v0 = partialsOf m d :=
  (rowOp_ne _ main_v0 (by decide)).trans ((sliceOp_ne _ main_v0 (by decide)).trans (W1_v0 m d))

theorem sliceOp_out (W : Valuation τ sig (Elt F)) :
    (sliceOp (F := F)).result W main_v1 = extractStridedSlice S256x256 ![0, 0] (W main_arg0 : Vec F S16384x256 .f32) slices_S16384x256_S256x256_0_0 :=
  StableHlo.unary_result main_arg0 main_v1 _ _ _ W

theorem rowOp_out (W : Valuation τ sig (Elt F)) :
    (rowOp (F := F)).result W main_v2 = shapeCast S1x256 (W main_arg3 : Vec F S256 .f32) shapeCasts_S256_S1x256 :=
  StableHlo.reshape_result main_arg3 main_v2 _ _ _ _ W

theorem Vt_v1 (d : Dev nD) :
    Vt m d main_v1 = extractStridedSlice S256x256 ![0, 0] (m (xLoc d) : Vec F S16384x256 .f32) slices_S16384x256_S256x256_0_0 :=
  (rowOp_ne _ main_v1 (by decide)).trans ((sliceOp_out (W1 m d)).trans
    (congrArg (fun v : Vec F S16384x256 .f32 => extractStridedSlice S256x256 ![0, 0] v slices_S16384x256_S256x256_0_0) (W1_ne m d main_arg0 (by decide))))

theorem Vt_v2 (d : Dev nD) :
    Vt m d main_v2 = shapeCast S1x256 (m (bLoc d) : Vec F S256 .f32) shapeCasts_S256_S1x256 :=
  (rowOp_out _).trans
    (congrArg (fun v : Vec F S256 .f32 => shapeCast S1x256 v shapeCasts_S256_S1x256)
      ((sliceOp_ne _ main_arg3 (by decide)).trans (W1_ne m d main_arg3 (by decide))))

/-! ## The unscoped buffers, one by one and as one set -/

/-- The unscoped buffers on a TensorCore. -/
def ucRefs : Finset (DevRef τ sig) := (StableHlo.tcRefs τ sig).filter fun b => ¬ b.isScoped

/-- The unscoped buffers at a valuation are that set held at it. -/
theorem unscopedBufs_set (d : Dev nD) (W : Valuation τ sig (Elt F)) :
    (unscopedBufs d (fun b => W b) : sProp 𝕄) = StableHlo.held (d : Thread nD τ) ucRefs W := by
  unfold unscopedBufs StableHlo.held ucRefs StableHlo.tcRefs
  rw [Finset.filter_map, bigSep_map]
  rfl

/-- The unscoped buffers are the four arguments and the four results of the program. -/
theorem unscopedBufs_list (d : Dev nD) (W : (b : Ref sig .tc) → Buf (Elt F) ((d : Thread nD τ).loc b)) :
    (unscopedBufs d W : sProp 𝕄) = iprop((xLoc d ↦{fullShare} W main_arg0) ∗ (iLoc d ↦{fullShare} W main_arg1) ∗ (wLoc d ↦{fullShare} W main_arg2)
      ∗ (bLoc d ↦{fullShare} W main_arg3) ∗ (pLoc d ↦{fullShare} W main_v0) ∗ ((d : Thread nD τ).loc main_v1 ↦{fullShare} W main_v1)
      ∗ ((d : Thread nD τ).loc main_v2 ↦{fullShare} W main_v2) ∗ rLoc d ↦{fullShare} W main_v3) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The SparseCore call -/

theorem st0_eq (d : Dev nD) : (bigSep Finset.univ fun c : Fin ((K (F := F)).nCore 0) => (P m).st 0 d c)
    = bigSep Finset.univ fun c : Fin (grid0.bound 0) => bigSep Finset.univ fun s : Fin (grid0.bound 1) => taskRes m d (m (pLoc d)) (coordsV c s) := rfl
theorem dn0_eq (d : Dev nD) : (bigSep Finset.univ fun c : Fin ((K (F := F)).nCore 0) => (P m).dn 0 d c)
    = bigSep Finset.univ fun c : Fin (grid0.bound 0) => bigSep Finset.univ fun s : Fin (grid0.bound 1) => taskRes m d (partialsOf m d) (coordsV c s) := rfl

/-- The call's rule at this program: from the buffers as launched to the same with the partial results in place. -/
theorem call_wp (κ : GSem nD τ sig → ℕ) (d : Dev nD) (Q : PUnit → sProp 𝕄) :
    iprop((K (F := F)).ctx EH (P m) κ ∗ (K (F := F)).tcSt EH d 0 ∗ unscopedBufs d (fun b => m ((d : Thread nD τ).loc b))
        ∗ (((K (F := F)).tcSt EH d 1 ∗ StableHlo.held (d : Thread nD τ) ucRefs (W1 m d)) -∗ Q ⟨⟩))
      ⊢ wp frame (wpE ((K (F := F)).defs (D (F := F))) 𝒱 (SparseCore.T d) none) Set.univ ((K (F := F)).run d 0) Q := by
  have hin := (arrays_tasks m d (m (pLoc d))).1
  have hout := (arrays_tasks m d (partialsOf m d)).2
  rw [← unscopedBufs_set, unscopedBufs_list, unscopedBufs_list]
  simp only [W1_v0, W1_ne m d main_arg0 (by decide), W1_ne m d main_arg1 (by decide), W1_ne m d main_arg2 (by decide), W1_ne m d main_arg3 (by decide),
    W1_ne m d main_v1 (by decide), W1_ne m d main_v2 (by decide), W1_ne m d main_v3 (by decide)]
  iintro ⟨#Hctx, Hst, ⟨Hx, Hi, Hw, Hb, Hp, H1, H2, H3⟩, Hk⟩
  ihave H := hin $$ [Hi Hw Hp]
  · isplitl [Hi]; · iexact Hi
    isplitl [Hw]; · iexact Hw
    iexact Hp
  icases H with ⟨Hkept, Htasks⟩
  iapply ((K (F := F)).wp_run (D (F := F)) 𝒱 (EH := EH) (P := P m) κ d 0)
  isplitr; · iexact Hctx
  isplitl [Hst]; · iexact Hst
  isplitl [Htasks]
  · iapply (Entails.of_eq (st0_eq m d).symm); iexact Htasks
  iintro ⟨Hst, Hdn⟩
  ihave Hdn := (Entails.of_eq (dn0_eq m d)) $$ Hdn
  ihave H := hout $$ [Hkept Hdn]
  · isplitl [Hkept]; · iexact Hkept
    iexact Hdn
  icases H with ⟨Hi, Hw, Hp⟩
  iapply Hk
  isplitl [Hst]; · iexact Hst
  isplitl [Hx]; · iexact Hx
  isplitl [Hi]; · iexact Hi
  isplitl [Hw]; · iexact Hw
  isplitl [Hb]; · iexact Hb
  isplitl [Hp]; · iexact Hp
  isplitl [H1]; · iexact H1
  isplitl [H2]; · iexact H2
  iexact H3

/-! ## The pipeline -/

/-- The pipeline's region at what the program has computed. -/
abbrev regM := reg (Vt m) (Vfin m) (Vfin_out m) (Vfin_ne m)

/-- The pipeline's call among the pipelines' own labels. -/
abbrev pipeCall : Prog (TpuEff nD τ sig (Elt F) (ΛP (F := F)) .tc) PUnit := .op (.customCall (Pipeline.entry 0) ()) .ret

/-- The pipeline's call in the pipelines' own table: from the buffers as the host operations left them to the same with the
    result in place. -/
theorem pipe_wp (d : Dev nD) (Q : PUnit → sProp 𝕄) :
    iprop(levAts (K (F := F)).L (K (F := F)).lev ∗ boundary (d : Thread nD τ) ∗ unscopedBufs d (Vt m d) ∗ quietOwes d ∗ pipeGhost d
        ∗ ((boundary (d : Thread nD τ) ∗ unscopedBufs d (Vfin m d) ∗ quietOwes d) -∗ Q ⟨⟩))
      ⊢ wp frame (wpE (D (F := F)) 𝒱 (d : Thread nD τ) none) Set.univ (pipeCall (F := F)) Q := by
  have hreg := Pipeline.RegionSeg.wp (pcfgs (F := F)) adm (pdats (Vt m)) none cellOf_inj EP defs₀ 𝒱₀
    (K (F := F)).L (K (F := F)).lev (regM m) d none (fun u h => by cases h) .ret Q
  rw [wp_ret, show (regM m).pre d = iprop(unscopedBufs d (Vt m d) ∗ quietOwes d) from rfl,
    show (regM m).post d = iprop(unscopedBufs d (Vfin m d) ∗ quietOwes d) from rfl] at hreg
  iintro ⟨#Hlev, Hb, Hu, HO, ⟨Hg, Ht⟩, Hk⟩
  iapply hreg
  isplitl [Hk]
  · iintro ⟨Hb, Hu, HO⟩
    imodintro
    iapply Hk
    isplitl [Hb]; · iexact Hb
    isplitl [Hu]; · iexact Hu
    iexact HO
  isplitl [Hb]; · iexact Hb
  isplitl [Hu HO]
  · isplitl [Hu]; · iexact Hu
    iexact HO
  isplitr; · iexact Hlev
  isplitl [Hg]; · iexact Hg
  iexact Ht

/-- The program's own call of the pipeline is that call lifted. -/
theorem pipeCall_lift : (Prog.lift (.customCall (SparseCore.inner (Pipeline.entry 0)) ())
      : Prog (TpuEff nD τ sig (Elt F) (SparseCore.Sig (ΛP (F := F)) 1) .tc) PUnit)
    = SparseCore.liftProg (pipeCall (F := F)) := rfl

/-! ## The whole program -/

abbrev FIN (d : Dev nD) : sProp 𝕄 := unscopedBufs d (Vfin m d)

theorem sub_ucRefs (a b : Ref sig .tc) (ha : ¬ (a : DevRef τ sig).isScoped) (hb : ¬ (b : DevRef τ sig).isScoped) :
    ({(a : DevRef τ sig), (b : DevRef τ sig)} : Finset (DevRef τ sig)) ⊆ ucRefs := by
  intro r hr
  unfold ucRefs
  rcases Finset.mem_insert.mp hr with rfl | h
  · exact Finset.mem_filter.mpr ⟨StableHlo.devRef_mem_tcRefs a, ha⟩
  · rw [Finset.mem_singleton.mp h]; exact Finset.mem_filter.mpr ⟨StableHlo.devRef_mem_tcRefs b, hb⟩

/-- After the call the TensorCore owes nothing; what it owes can be taken out and put back. -/
theorem tcSt_quiet (d : Dev nD) :
    ((K (F := F)).tcSt EH d 1 : sProp 𝕄) ⊢ iprop(quietOwes d ∗ (quietOwes d -∗ (K (F := F)).tcSt EH d 1)) := by
  unfold SparseCore.Cfg.tcSt quietOwes
  rw [(K (F := F)).Otc_end d (le_refl 1)]
  iintro ⟨HO, Hrest⟩
  isplitl [HO]; · iexact HO
  iintro HO
  isplitl [HO]; · iexact HO
  iexact Hrest

/-- The set as the host operations leave it is the buffers as the pipeline finds them. -/
theorem host_done (d : Dev nD) :
    (StableHlo.held (SparseCore.T d) ucRefs ((rowOp (F := F)).result ((sliceOp (F := F)).result (W1 m d))) : sProp 𝕄) = unscopedBufs d (Vt m d) :=
  (unscopedBufs_set d (W2 m d)).symm

/-- The TensorCore's program on device `d`. -/
theorem hmain (κ : GSem nD τ sig → ℕ) (d : Dev nD) :
    iprop((K (F := F)).ctx EH (P m) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  have hlev := SparseCore.Cfg.ctx_levAts (K := K (F := F)) (EH := EH) (P := P m) κ (lv := (K (F := F)).lev)
  have hpipe := pipe_wp m d
  simp only [main, wp_bind, wp_pure, pipeCall_lift]
  iintro ⟨#Hctx, Hst, ⟨Hb, Hu, Hts, -⟩, HG⟩
  iapply (call_wp m κ d)
  isplitr; · iexact Hctx
  isplitl [Hst]; · iexact Hst
  isplitl [Hu]; · iexact Hu
  iintro ⟨Hst, Hh⟩
  iapply (StableHlo.wp_hlo_within 𝒱 (SparseCore.T d) none Set.univ (op := sliceOp (F := F)) (S := ucRefs)
    (sub_ucRefs main_arg0 main_v1 (by decide) (by decide)) (V := W1 m d)) $$ [Hb Hh]
  · isplitl [Hb]; · iexact Hb
    iexact Hh
  iintro ⟨Hb, Hh⟩
  rw [wp_ret]
  imodintro
  iapply (StableHlo.wp_hlo_within 𝒱 (SparseCore.T d) none Set.univ (op := rowOp (F := F)) (S := ucRefs)
    (sub_ucRefs main_arg3 main_v2 (by decide) (by decide)) (V := (sliceOp (F := F)).result (W1 m d))) $$ [Hb Hh]
  · isplitl [Hb]; · iexact Hb
    iexact Hh
  iintro ⟨Hb, Hh⟩
  rw [wp_ret]
  imodintro
  ihave Hu := (Entails.of_eq (host_done m d)) $$ Hh
  ihave Hlev := hlev $$ Hctx
  ihave H := (tcSt_quiet d) $$ Hst
  icases H with ⟨HO, Hrest⟩
  iapply ((K (F := F)).wp_liftProg (D (F := F)) 𝒱 (SparseCore.T d) Set.univ none (pipeCall (F := F)) _)
  iapply (pipe_wp m d)
  isplitl [Hlev]; · iexact Hlev
  isplitl [Hb]; · iexact Hb
  isplitl [Hu]; · iexact Hu
  isplitl [HO]; · iexact HO
  isplitl [HG]; · iexact HG
  iintro ⟨Hb, Hu, HO⟩
  imodintro
  isplitl [HO Hrest]
  · iapply Hrest; iexact HO
  isplitl [Hu]; · iexact Hu
  isplitl [Hb]; · iexact Hb
  iexact Hts

/-! ## What the run's end holds -/

/-- Device `d`'s arguments and result in memory at the end. -/
def fq (d : Dev nD) (s' : Phys nD τ sig (Elt F)) : Prop :=
  s'.mem.mem (rLoc d) = resultOf m d ∧ s'.mem.mem (xLoc d) = m (xLoc d) ∧ s'.mem.mem (iLoc d) = m (iLoc d)
    ∧ s'.mem.mem (wLoc d) = m (wLoc d) ∧ s'.mem.mem (bLoc d) = m (bLoc d)

/-- Holding a whole array at the state's interpretation pins the memory there. -/
theorem pinned (s' : Phys nD τ sig (Elt F)) (ℓ : Loc nD τ sig) (f : Buf (Elt F) ℓ) :
    iprop(SI s' ∗ ℓ ↦{fullShare} f) ⊢ (⌜s'.mem.mem ℓ = f⌝ : sProp 𝕄) := by
  iintro H
  ihave H := (SI_pointsTo_agree (st := s') (ℓ := ℓ) (I := Finset.univ) (q := fullShare) (f := f)) $$ H
  icases H with %h
  ipureintro
  exact funext fun i => h i (Finset.mem_univ i)

theorem hfin (d : Dev nD) (s' : Phys nD τ sig (Elt F)) : iprop(FIN m d ∗ SI s') ⊢ (⌜fq m d s'⌝ : sProp 𝕄) := by
  unfold FIN
  rw [unscopedBufs_list, Vfin_out, Vfin_ne m d main_arg0 (by decide), Vfin_ne m d main_arg1 (by decide), Vfin_ne m d main_arg2 (by decide),
    Vfin_ne m d main_arg3 (by decide), Vt_kept m d main_arg0 (by decide) (by decide) (by decide), Vt_kept m d main_arg1 (by decide) (by decide) (by decide),
    Vt_kept m d main_arg2 (by decide) (by decide) (by decide), Vt_kept m d main_arg3 (by decide) (by decide) (by decide)]
  iintro ⟨⟨Hx, Hi, Hw, Hb, -, -, -, Hr⟩, HSI⟩
  ihave H := (persistent_entails_right (pinned s' (xLoc d) (m (xLoc d)))) $$ [HSI Hx]
  · isplitl [HSI] <;> iassumption
  icases H with ⟨%h1, HSI, -⟩
  ihave H := (persistent_entails_right (pinned s' (iLoc d) (m (iLoc d)))) $$ [HSI Hi]
  · isplitl [HSI] <;> iassumption
  icases H with ⟨%h2, HSI, -⟩
  ihave H := (persistent_entails_right (pinned s' (wLoc d) (m (wLoc d)))) $$ [HSI Hw]
  · isplitl [HSI] <;> iassumption
  icases H with ⟨%h3, HSI, -⟩
  ihave H := (persistent_entails_right (pinned s' (bLoc d) (m (bLoc d)))) $$ [HSI Hb]
  · isplitl [HSI] <;> iassumption
  icases H with ⟨%h4, HSI, -⟩
  ihave H := (pinned s' (rLoc d) (outOf (Vt m) d)) $$ [HSI Hr]
  · isplitl [HSI] <;> iassumption
  icases H with %h5
  ipureintro
  exact ⟨h5, h1, h2, h3, h4⟩

/-- The run's end: every device's result in closed form, its arguments as launched, and every semaphore at rest. -/
def QC (r : PUnit × MemSt nD τ sig (Elt F)) : Prop :=
  (∀ d, r.2.mem (rLoc d) = resultOf m d ∧ r.2.mem (xLoc d) = m (xLoc d) ∧ r.2.mem (iLoc d) = m (iLoc d)
    ∧ r.2.mem (wLoc d) = m (wLoc d) ∧ r.2.mem (bLoc d) = m (bLoc d)) ∧ r.2.sem = fun _ => 0

/-- The whole run at index arrays in range. -/
theorem run_main (hI : ∀ d, InRange (m (iLoc d))) :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq) (fun q _ => match q with | 0 => tileObl m facts hI)
    (fun q _ => match q with | 0 => SparseCore.Cfg.VecSplit.of_plain (vecSplit m))
    m ρ main (fun d => pipeGhost d) (FIN m) (u₀ (F := F)) (sep_elim_left.trans (hu₀ m)) (hmain m ρ) (fq m) (hfin m) (QC m) (fun _ h hz => ⟨h, hz⟩)

end Cert.Proof.Acc
-- ==== Proof.Pre.lean ====
/- What the precondition on the indices says: every index word is below 256. -/
module

public import proofs.«01_k».proof.Defs
public import proofs.«01_k».proof.Proof.Setup
public import Idealize.ShloMosaic.Lib.ReduceAll
public import Idealize.ShloMosaic.Lib.Affine

@[expose] public section

noncomputable section

namespace Cert.Proof.Acc

open Idealize.ShloMosaic

/-- A word at least 0 and below 256, read signed, is below 256 read unsigned. -/
theorem word_lt {v : BitVec 32} (h0 : IntOp.cmpi .sge v 0#32 = 1#1) (h1 : IntOp.cmpi .slt v 256#32 = 1#1) : v.toNat < 256 := by
  rw [IntOp.cmpi_sge] at h0
  rw [IntOp.cmpi_slt] at h1
  simp only [BitVec.toInt_eq_toNat_cond, BitVec.toNat_ofNat, Nat.reducePow, Nat.reduceMod] at h0 h1
  have := v.isLt
  split_ifs at h0 h1 <;> omega

section Range
variable [Cert.Pre_in_range.Facts] {F : FTy → Type} [FloatOps F]

/-- The first precondition gives the indices' range. -/
theorem inRange_of (x : FVec F Cert.Pre_in_range.S16384x256 .f32) (I : IVec Cert.Pre_in_range.S2x1048576 32) (w : FVec F Cert.Pre_in_range.S1048576 .f32)
    (b : FVec F Cert.Pre_in_range.S256 .f32) (h : Cert.Pre_in_range.fn (F := F) x I w b = fun _ => 1#1) : InRange (F := F) I := by
  have e := congrFun h (fun a => a.elim0)
  simp only [Cert.Pre_in_range.fn] at e
  obtain ⟨e0, e1⟩ := IntOp.andi_eq_one.mp e
  intro i
  exact word_lt (Host.reduce_andi_all _ _ _ _ _ e0 i) (Host.reduce_andi_all _ _ _ _ _ e1 i)

end Range

end Cert.Proof.Acc
-- ==== Proof.Frames.lean ====
/- The frames: the kernel as written and over the extended reals, and the reference. -/
module

public import proofs.«01_k».proof.Defs
public import proofs.«01_k».proof.Proof.Main
public import proofs.«01_k».proof.Proof.Pre
public import proofs.«01_k».proof.Proof.Gen.Kernel
public import proofs.«01_k».proof.Proof.Gen.ReferenceIdeal
public import proofs.«01_k».proof.Proof.Gen.ReferenceIdeal.Run
public import proofs.«01_k».proof.Proof.Gen.Pre_in_range

@[expose] public section

noncomputable section

namespace Cert.Proof

open Idealize.ShloMosaic Idealize.SL.Sem Cert.Proof.Acc

attribute [local instance] Cert.Kernel.Gen.facts Cert.KernelIdeal.Gen.facts Cert.ReferenceIdeal.Gen.facts Cert.Pre_in_range.Gen.facts

/-- The two printings of the kernel have the same bodies; -/
theorem bodies_eq : Cert.Kernel.defs₀ (F := Bits) = Cert.KernelIdeal.defs₀ (F := Bits) := by
  funext p ℓ a
  match p, ℓ, a with
  | .scVector _ _, 0, _ => rfl
  | .tc, 1, (_, _) => rfl
  | .tc, 0, _ => rfl
  | .scScalar _, 0, _ => rfl
  | .scScalar _, 1, _ => rfl
  | .scVector _ _, 1, _ => rfl

/-- so the same programs. -/
theorem defs_eq : Cert.Kernel.defs (F := Bits) = Cert.KernelIdeal.defs (F := Bits) :=
  congrArg (fun D => Cert.KernelIdeal.sc.defs (Pipeline.defs Cert.KernelIdeal.pcfgs D)) bodies_eq

/-- The kernel as written terminates, keeps its arguments and leaves every counter at zero. -/
theorem frame_kernel : Cert.quiescent_Kernel := fun m ρ h => by
  rw [defs_eq]
  exact (θ_run Cert.KernelIdeal.defs _ _).mono (fun _ h => ⟨fun c => (h.1 c).2, h.2⟩)
    (run_main (F := Bits) m ρ fun d => inRange_of _ _ _ _ (h d))

/-- So does the kernel over the extended reals. -/
theorem frame_kernelIdeal : Cert.quiescent_KernelIdeal := fun m ρ h =>
  (θ_run Cert.KernelIdeal.defs _ _).mono (fun _ h => ⟨fun c => (h.1 c).2, h.2⟩)
    (run_main (F := Ideal) m ρ fun d => inRange_of _ _ _ _ (h d))

/-- The reference has no semaphores, and its run keeps the arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Proof

end
-- ==== Proof.PreFinite.lean ====
/- What the second precondition says: every index word is below 256, every table entry and every value is finite. -/
module

public import proofs.«01_k».proof.Defs
public import proofs.«01_k».proof.Proof.Pre
public import Idealize.ShloMosaic.PureOps.Ideal.Laws

@[expose] public section

noncomputable section

namespace Cert.Proof.Acc

open Idealize.ShloMosaic

/-- An array of extended reals none of which is an infinity. -/
def Finite {s : Shape} (x : FVec Ideal s .f32) : Prop := ∀ i, (x i : EReal) ≠ ⊤ ∧ (x i : EReal) ≠ ⊥

/-- The extended real of the pattern of positive infinity. -/
theorem inf_top : Ideal.ofBits .f32 0x7F800000#32 = ⊤ := by simp [Ideal.ofBits, Ideal.ieee]

/-- An extended real whose magnitude is below infinity is neither infinity. -/
theorem finite_of_cmp {a : Ideal .f32} (h : Ideal.cmp .olt (max (a : EReal) (-a)) (Ideal.ofBits .f32 0x7F800000#32) = 1#1) :
    (a : EReal) ≠ ⊤ ∧ (a : EReal) ≠ ⊥ := by
  rw [inf_top] at h
  have h' : max (a : EReal) (-a) < ⊤ := by
    have : BitVec.ofBool (decide (max (a : EReal) (-a) < ⊤)) = 1#1 := h
    by_contra hn
    rw [decide_eq_false hn] at this
    exact absurd this (by decide)
  obtain ⟨h1, h2⟩ := max_lt_iff.mp h'
  exact ⟨ne_of_lt h1, fun hb => by rw [hb] at h2; simp at h2⟩

variable [Cert.Pre_in_range_finite.Facts]

/-- The second precondition gives the indices' range and that the table and the values are finite. -/
theorem inRange_finite_of (x : FVec Ideal Cert.Pre_in_range_finite.S16384x256 .f32) (I : IVec Cert.Pre_in_range_finite.S2x1048576 32)
    (w : FVec Ideal Cert.Pre_in_range_finite.S1048576 .f32) (b : FVec Ideal Cert.Pre_in_range_finite.S256 .f32)
    (h : Cert.Pre_in_range_finite.fn (F := Ideal) x I w b = fun _ => 1#1) :
    InRange (F := Ideal) I ∧ Finite x ∧ Finite w := by
  have e := congrFun h (fun a => a.elim0)
  simp only [Cert.Pre_in_range_finite.fn, Cert.Pre_in_range_finite.fn_part1] at e
  obtain ⟨e012, e3⟩ := IntOp.andi_eq_one.mp e
  obtain ⟨e01, e2⟩ := IntOp.andi_eq_one.mp e012
  obtain ⟨e0, e1⟩ := IntOp.andi_eq_one.mp e01
  refine ⟨fun i => word_lt (Host.reduce_andi_all _ _ _ _ _ e0 i) (Host.reduce_andi_all _ _ _ _ _ e1 i),
    fun i => finite_of_cmp (Host.reduce_andi_all _ _ _ _ _ e2 i), fun i => finite_of_cmp (Host.reduce_andi_all _ _ _ _ _ e3 i)⟩

end Cert.Proof.Acc

end
-- ==== Proof.AccSum.lean ====
/- The accumulator over the extended reals: entry (r, j) is the sum of the values whose row is r and whose column is j. -/
module

public import proofs.«01_k».proof.Proof.Tile
public import Idealize.ShloMosaic.PureOps.Ideal

@[expose] public section

noncomputable section

namespace Cert.Proof.Acc

open Cert.KernelIdeal Cert.KernelIdeal.Gen
open Idealize.ShloMosaic

/-- The row and the column of the nonzero at position `n`, and its value. -/
def rowN (I : Vec Ideal S2x1048576 .i32) (n : ℕ) : ℕ := (I (ixI 0 n) : BitVec 32).toNat
def colN (I : Vec Ideal S2x1048576 .i32) (n : ℕ) : ℕ := (I (ixI 1 n) : BitVec 32).toNat
def valN (W : Vec Ideal S1048576 .f32) (n : ℕ) : EReal := W (ixW n)

/-- What the nonzero at position `n` adds to entry (r, j). -/
def term (I : Vec Ideal S2x1048576 .i32) (W : Vec Ideal S1048576 .f32) (r j : Fin 256) (n : ℕ) : EReal :=
  if rowN I n = r.val ∧ colN I n = j.val then valN W n else 0

/-- A run of conditional additions at one entry is the sum of what is added. -/
theorem foldl_add {α ι : Type} (l : List α) (at' : α → ι → Prop) [∀ k p, Decidable (at' k p)] (y : (ι → EReal) → α → EReal) (v : α → EReal)
    (hy : ∀ g k p, at' k p → y g k = g p + v k) (f : ι → EReal) (p : ι) :
    l.foldl (fun g k => fun p => if at' k p then y g k else g p) f p = f p + (l.map fun k => if at' k p then v k else 0).sum := by
  induction l generalizing f with
  | nil => simp
  | cons k l ih =>
    rw [List.foldl_cons, ih, List.map_cons, List.sum_cons, ← add_assoc]
    congr 1
    by_cases h : at' k p
    · rw [if_pos h, if_pos h, hy f k p h]
    · rw [if_neg h, if_neg h, add_zero]

/-- One group of sixteen nonzeros adds its sixteen terms. -/
theorem accStep_apply {I : Vec Ideal S2x1048576 .i32} (hI : InRange (F := Ideal) I) (W : Vec Ideal S1048576 .f32) (n : ℕ) (g : Vec Ideal S256x256 .f32)
    (r j : Fin 256) :
    (accStep I W n g (ixA r j) : EReal) = g (ixA r j) + ∑ i ∈ Finset.range 16, term I W r j (n + i) := by
  rw [accStep_of I W n g (inRange_chk hI n)]
  unfold storeIdx
  simp only [if_true]
  refine (foldl_add (List.finRange 16)
    (fun k (p : S256x256.Idx) => ∀ a, (p a).val = (idxAt ![rowsAt (F := Ideal) I n, colsAt (F := Ideal) I n] (inRange_chk hI n) (Shape.ofLane k) a).val)
    (fun g k => Elt.idxAdd (F := Ideal) .f32 (g (idxAt ![rowsAt (F := Ideal) I n, colsAt (F := Ideal) I n] (inRange_chk hI n) (Shape.ofLane k))) (valsAt W n (Shape.ofLane k)))
    (fun k => valN W (n + k.val)) ?_ g (ixA r j)).trans ?_
  · intro g k p hp
    have e : idxAt ![rowsAt (F := Ideal) I n, colsAt (F := Ideal) I n] (inRange_chk hI n) (Shape.ofLane k) = p :=
      funext fun a => Fin.ext (hp a).symm
    rw [e]
    rfl
  · rw [Finset.sum_range, ← List.sum_ofFn, List.ofFn_eq_map]
    refine congrArg (fun l => (g (ixA r j) : EReal) + List.sum l) (List.map_congr_left fun k _ => ?_)
    unfold term
    refine if_congr ⟨fun h => ⟨(h 0).symm, (h 1).symm⟩, fun h a => ?_⟩ rfl rfl
    match a with
    | 0 => exact h.1.symm
    | 1 => exact h.2.symm

/-- The accumulator after `t` groups from position `n` on. -/
theorem accAfter_apply {I : Vec Ideal S2x1048576 .i32} (hI : InRange (F := Ideal) I) (W : Vec Ideal S1048576 .f32) (n t : ℕ) (r j : Fin 256) :
    (accAfter I W n t (ixA r j) : EReal) = ∑ i ∈ Finset.range (16 * t), term I W r j (n + i) := by
  induction t with
  | zero =>
    show Ideal.ofBits .f32 0x00000000#32 = _
    simp [Ideal.ofBits, Ideal.ieee]
  | succ t ih =>
    show (accStep I W (n + 16 * t) (accAfter I W n t) (ixA r j) : EReal) = _
    rw [accStep_apply hI, ih, Nat.mul_succ, Finset.sum_range_add]
    simp only [add_assoc]

/-- Sums over `G` runs of `N` positions are the sum over all of them. -/
theorem sum_runs (f : ℕ → EReal) (N G : ℕ) : ∑ g ∈ Finset.range G, ∑ i ∈ Finset.range N, f (N * g + i) = ∑ i ∈ Finset.range (N * G), f i := by
  induction G with
  | zero => simp
  | succ G ih => rw [Finset.sum_range_succ, ih, Nat.mul_succ, Finset.sum_range_add]

/-- The thirty-two partial results sum to the sum over all nonzeros. -/
theorem partials_sum {I : Vec Ideal S2x1048576 .i32} (hI : InRange (F := Ideal) I) (W : Vec Ideal S1048576 .f32) (r j : Fin 256) :
    ∑ g : Fin 32, (accAfter I W (32768 * g.val) 2048 (ixA r j) : EReal) = ∑ i ∈ Finset.range 1048576, term I W r j i := by
  simp only [accAfter_apply hI]
  rw [← Finset.sum_range fun g => ∑ i ∈ Finset.range (16 * 2048), term I W r j (32768 * g + i)]
  exact sum_runs (term I W r j) 32768 32

end Cert.Proof.Acc

end
-- ==== Proof.KernelValue.lean ====
/- The kernel's result over the extended reals, read at one index. -/
module

public import proofs.«01_k».proof.Proof.Main
public import proofs.«01_k».proof.Proof.AccSum
public import Idealize.ShloMosaic.Lib.MatmulPlain
public import Idealize.ShloMosaic.Lib.ValueIdx
public import Idealize.ShloMosaic.Lib.ValueLayout
public import Idealize.ShloMosaic.PureOps.Ideal.Laws

@[expose] public section

noncomputable section

namespace Cert.Proof.Acc

open Cert.KernelIdeal Cert.KernelIdeal.Gen
open Idealize.ShloMosaic

theorem ixA_eq (r c : Fin 256) : ixA r c = ValueIdx.ix2 r c := funext fun a => by
  match a with
  | ⟨0, _⟩ => rfl
  | ⟨1, _⟩ => rfl

/-- The partial results summed over the tasks, at an entry. -/
theorem tasks_sum (P : FVec Ideal S32x256x256 .f32) (r k : Fin 256) :
    (multiReduction .add [0] S256x256 P 0x00000000#32 reduces_S32x256x256_S256x256 (.inl rfl) rfl (ValueIdx.ix2 r k) : EReal)
      = ∑ g : Fin 32, (P (ValueIdx.ix3 g r k) : EReal) := by
  refine (Ideal.multiReduction_add_single P _ reduces_S32x256x256_S256x256 (.inl rfl) rfl (ValueIdx.ix2 r k)).trans ?_
  refine Finset.sum_congr rfl fun g _ => congrArg P (funext fun a => Fin.ext ?_)
  match a with
  | ⟨0, _⟩ => rfl
  | ⟨1, _⟩ => rfl
  | ⟨2, _⟩ => rfl

/-- What the first point of the TensorCore's grid stores, at an entry: the summed partial results times the table, plus the bias. -/
theorem pay_apply (P : FVec Ideal S32x256x256 .f32) (X : FVec Ideal S256x256 .f32) (B : FVec Ideal S1x256 .f32) (r c : Fin 256) :
    (k1_pay1 (F := Ideal) P X B (ValueIdx.ix2 r c) : EReal)
      = (∑ k : Fin 256, (∑ g : Fin 32, (P (ValueIdx.ix3 g r k) : EReal)) * X (ValueIdx.ix2 k c)) + B (ValueIdx.ix2 (0 : Fin 1) c) := by
  unfold k1_pay1
  simp only [shapeCast_self]
  refine (congrArg₂ (fun u v : EReal => u + v) (Ideal.matmul_plain_apply _ _ _ _ r c)
    (ValueIdx.broadcastTo_1b_ab_apply B broadcasts_S1x256_S256x256 r c)).trans ?_
  have hz : (constant (F := Ideal) S256x256 .f32 0x00000000#32 (ValueIdx.ix2 r c) : EReal) = 0 := by
    show Ideal.ofBits .f32 0x00000000#32 = _
    simp [Ideal.ofBits, Ideal.ieee]
  rw [hz, zero_add]
  exact congrArg (fun u : EReal => u + B (ValueIdx.ix2 (0 : Fin 1) c))
    (Finset.sum_congr rfl fun k _ => congrArg (fun u : EReal => u * X (ValueIdx.ix2 k c)) (tasks_sum P r k))

variable (m : (ℓ : Loc nD τ sig) → Buf (Elt Ideal) ℓ) (d : Dev nD)

/-- The first 256 rows of the table, as the TensorCore takes them. -/
theorem rows_apply (x : FVec Ideal S16384x256 .f32) (k c : Fin 256) :
    extractStridedSlice S256x256 ![0, 0] x slices_S16384x256_S256x256_0_0 (ValueIdx.ix2 k c)
      = x (ValueIdx.ix2 (⟨k.val, k.isLt.trans (by norm_num)⟩ : Fin 16384) c) :=
  extractStridedSlice_apply _ _ _ _ _ fun a => by
    match a with
    | ⟨0, _⟩ => exact (Nat.zero_add _).symm
    | ⟨1, _⟩ => exact (Nat.zero_add _).symm

/-- Under the index range, entry (a, r, c) of the kernel's result: for each column the sum of the values of row r in that column, times the table's
    entry at the column and c, summed over the columns, plus the bias at c. -/
theorem result_apply (hI : InRange (F := Ideal) (m (iLoc d))) (p : S256x256x256.Idx) :
    (resultOf m d p : EReal)
      = (∑ k : Fin 256, (∑ i ∈ Finset.range 1048576, term (m (iLoc d)) (m (wLoc d)) (p 1) k i)
          * (m (xLoc d) : FVec Ideal S16384x256 .f32) (ValueIdx.ix2 (⟨k.val, k.isLt.trans (by norm_num)⟩ : Fin 16384) (p 2)))
        + (m (bLoc d) : FVec Ideal S256 .f32) (ValueIdx.ix1 (p 2)) := by
  have e : resultOf m d p = k1_pay1 (Vt m d main_v0) (Vt m d main_v1) (Vt m d main_v2) (ValueIdx.ix2 (p 1) (p 2)) :=
    congrArg (k1_pay1 (Vt m d main_v0) (Vt m d main_v1) (Vt m d main_v2)) (ixA_eq (p 1) (p 2))
  rw [e, Vt_v0, Vt_v1, Vt_v2]
  refine (pay_apply _ _ _ (p 1) (p 2)).trans (congrArg₂ (fun u v : EReal => u + v) (Finset.sum_congr rfl fun k _ => ?_)
    (ValueIdx.shapeCast_a_1a_apply _ shapeCasts_S256_S1x256 0 (p 2)))
  exact congrArg₂ (fun u v : EReal => u * v) (partials_sum hI (m (wLoc d)) (p 1) k) (rows_apply _ k (p 2))

end Cert.Proof.Acc

end
-- ==== Proof.Scatter.lean ====
/- A scatter of rows: `x.at[idx].add(upd)` over the extended reals, read at one entry. -/
module

public import Idealize.ShloMosaic.Lib.Routing.OpsPair
public import Idealize.ShloMosaic.Lib.ValueIdx
public import Idealize.ShloMosaic.PureOps.Ideal

@[expose] public section

noncomputable section

namespace Cert.Proof

open Idealize.ShloMosaic Idealize.ShloMosaic.Routing
open Idealize.ShloMosaic.ValueIdx (sum_idx2)

variable {R C n w : ℕ}

/-- Entry (i, k) of the updates lands at (r, c) exactly when the i-th index word is r and k is c. -/
theorem row_lands (d : ScatterDims (shape2 R C) (shape2 n 1) (shape2 n C)) (huw : d.updateWindowDims = [1]) (hiw : d.insertedWindowDims = [0])
    (hsd : d.scatterDimsToOperandDims = [0]) (hivd : d.indexVectorDim = 1) (idx : IVec (shape2 n 1) w) (i : Fin n) (k : Fin C) (r : Fin R) (c : Fin C) :
    d.resultIdx? (ValueIdx.ix2 i k) idx = some (ValueIdx.ix2 r c) ↔ (idx (ValueIdx.ix2 i (0 : Fin 1))).toInt = r.val ∧ k = c := by
  obtain ⟨uw, iw, sd, iv, wf⟩ := d
  dsimp only at huw hiw hsd hivd
  subst huw hiw hsd hivd
  rw [resultIdx?_ix2]
  have h0 : ScatterDims.start ⟨[1], [0], [0], 1, wf⟩ (ValueIdx.ix2 i k) idx 0 = (idx (ValueIdx.ix2 i (0 : Fin 1))).toInt := by
    unfold ScatterDims.start
    rw [dif_pos (List.mem_singleton.2 rfl)]
    refine congrArg (fun j => (idx j).toInt) (funext fun b => Fin.ext ?_)
    match b with
    | ⟨0, _⟩ => rfl
    | ⟨1, _⟩ => rfl
  have h1 : ScatterDims.start ⟨[1], [0], [0], 1, wf⟩ (ValueIdx.ix2 i k) idx 1 = 0 := by
    unfold ScatterDims.start
    rw [dif_neg (fun h => Nat.one_ne_zero (congrArg Fin.val (List.mem_singleton.1 h)))]
  have w0 : ScatterDims.window ⟨[1], [0], [0], 1, wf⟩ (ValueIdx.ix2 i k) (0 : Fin 2) = 0 := rfl
  have w1 : ScatterDims.window ⟨[1], [0], [0], 1, wf⟩ (ValueIdx.ix2 i k) (1 : Fin 2) = k.val := rfl
  rw [h0, h1, w0, w1]
  refine and_congr (by omega) ⟨fun h => Fin.ext (by omega), fun h => by rw [h]; omega⟩

/-- So entry (r, c) of the scatter's result is the operand's entry plus column c of the updates whose index word is r. -/
theorem scatter_rows_apply (d : ScatterDims (shape2 R C) (shape2 n 1) (shape2 n C)) (huw : d.updateWindowDims = [1]) (hiw : d.insertedWindowDims = [0])
    (hsd : d.scatterDimsToOperandDims = [0]) (hivd : d.indexVectorDim = 1) (x : FVec Ideal (shape2 R C) .f32) (idx : IVec (shape2 n 1) w)
    (upd : FVec Ideal (shape2 n C) .f32) (r : Fin R) (c : Fin C) :
    (Host.scatterAdd d x idx upd (ValueIdx.ix2 r c) : EReal)
      = x (ValueIdx.ix2 r c) + ∑ i : Fin n, if (idx (ValueIdx.ix2 i (0 : Fin 1))).toInt = r.val then (upd (ValueIdx.ix2 i c) : EReal) else 0 := by
  show (x (ValueIdx.ix2 r c) : EReal) + ∑ j ∈ Finset.univ.filter (fun j => d.resultIdx? j idx = some (ValueIdx.ix2 r c)), (upd j : EReal) = _
  rw [Finset.sum_filter, sum_idx2]
  refine congrArg _ (Finset.sum_congr rfl fun i _ => ?_)
  simp only [row_lands d huw hiw hsd hivd]
  by_cases h : (idx (ValueIdx.ix2 i (0 : Fin 1))).toInt = r.val
  · simp [h]
  · simp [h]

end Cert.Proof

end
-- ==== Proof.RefValue.lean ====
/- The reference's result over the extended reals, read at one index. -/
module

public import proofs.«01_k».proof.Proof.Gen.ReferenceIdeal
public import proofs.«01_k».proof.Proof.Gen.ReferenceIdeal.Run
public import proofs.«01_k».proof.Proof.Scatter
public import Idealize.ShloMosaic.Lib.Routing.Ops
public import Idealize.ShloMosaic.Lib.ReduceAll
public import Idealize.ShloMosaic.Lib.Affine
public import Idealize.ShloMosaic.Lib.ValueLayout

@[expose] public section

noncomputable section

namespace Cert.Proof.Ref

open Cert.ReferenceIdeal Cert.ReferenceIdeal.Gen
open Idealize.ShloMosaic

/-- A product and a sum of arrays, read at an index. -/
theorem mulf_at {s : Shape} (a b : FVec Ideal s .f32) (j : s.Idx) : (mulf a b j : EReal) = (a j : EReal) * b j := rfl
theorem addf_at {s : Shape} (a b : FVec Ideal s .f32) (j : s.Idx) : (addf a b j : EReal) = (a j : EReal) + b j := rfl

/-- The rows of the nonzeros, and their columns. -/
def rowWords (I : IVec S2x1048576 32) : IVec S1048576 32 :=
  shapeCast _ (extractStridedSlice S1x1048576 ![0, 0] I slices_S2x1048576_S1x1048576_0_0) shapeCasts_S1x1048576_S1048576
def colWords (I : IVec S2x1048576 32) : IVec S1048576 32 :=
  shapeCast _ (extractStridedSlice S1x1048576 ![1, 0] I slices_S2x1048576_S1x1048576_1_0) shapeCasts_S1x1048576_S1048576

theorem rowWords_apply (I : IVec S2x1048576 32) (i : Fin 1048576) : rowWords I (ValueIdx.ix1 i) = I (ValueIdx.ix2 (0 : Fin 2) i) := by
  unfold rowWords
  refine (ValueIdx.shapeCast_1a_a_apply _ _ i).trans (extractStridedSlice_apply _ _ _ _ _ fun a => ?_)
  match a with
  | ⟨0, _⟩ => rfl
  | ⟨1, _⟩ => exact (Nat.zero_add _).symm

theorem colWords_apply (I : IVec S2x1048576 32) (i : Fin 1048576) : colWords I (ValueIdx.ix1 i) = I (ValueIdx.ix2 (1 : Fin 2) i) := by
  unfold colWords
  refine (ValueIdx.shapeCast_1a_a_apply _ _ i).trans (extractStridedSlice_apply _ _ _ _ _ fun a => ?_)
  match a with
  | ⟨0, _⟩ => rfl
  | ⟨1, _⟩ => exact (Nat.zero_add _).symm

/-- An index with a negative one counted from the axis's end. -/
def wrapped (R : IVec S1048576 32) (k : BitVec 32) : IVec S1048576 32 :=
  select (cmpi .slt R (broadcastInDim S1048576 ![] bcast_S_S1048576 (constantI S_ 32 0#32)))
    (addi R (broadcastInDim S1048576 ![] bcast_S_S1048576 (constantI S_ 32 k))) R

theorem wrapped_eq (R : IVec S1048576 32) (k : BitVec 32) (h : ∀ i, (R i).toNat < 256) : wrapped R k = R :=
  funext fun i => Routing.wrap_of_lt (R i) _ ((h i).trans (by norm_num))

/-- The indices as a column. -/
def asCol (R : IVec S1048576 32) : IVec S1048576x1 32 := broadcastInDim S1048576x1 ![0] bcast_S1048576_S1048576x1_0 R

theorem asCol_apply (R : IVec S1048576 32) (i : Fin 1048576) : asCol R (ValueIdx.ix2 i (0 : Fin 1)) = R (ValueIdx.ix1 i) :=
  broadcastInDim_apply _ _ _ _ _ fun a => by
    match a with
    | ⟨0, _⟩ => exact (if_neg (by norm_num : ¬(1048576 = 1))).symm

theorem asCol_lt (R : IVec S1048576 32) (h : ∀ i, (R i).toNat < 256) (j : S1048576x1.Idx) : (asCol R j).toNat < 256 := h _

/-- Whether a column is inside the table. -/
def inTable (C : IVec S1048576x1 32) : IVec S1048576x1 1 :=
  andi (cmpi .sge C (broadcastInDim S1048576x1 ![] bcast_S_S1048576x1 (constantI S_ 32 0#32)))
    (cmpi .sle C (broadcastInDim S1048576x1 ![0, 1] bcast_S1x1_S1048576x1_0_1 (broadcastInDim S1x1 ![1] bcast_S1_S1x1_1 (constantI S1 32 16383#32))))

/-- A word below 256 is inside the table. -/
theorem inside {v : BitVec 32} (h : v.toNat < 256) : IntOp.andi (IntOp.cmpi .sge v 0#32) (IntOp.cmpi .sle v 16383#32) = 1#1 := by
  have e : v.toInt = v.toNat := BitVec.toInt_eq_toNat_of_lt (by omega)
  refine IntOp.andi_eq_one.2 ⟨IntOp.cmpi_sge.2 ?_, IntOp.cmpi_sle.2 ?_⟩
  · rw [e]; exact Int.natCast_nonneg _
  · rw [e]
    show (v.toNat : Int) ≤ 16383
    omega

theorem inTable_apply (C : IVec S1048576x1 32) (h : ∀ j, (C j).toNat < 256) (j : S1048576x1.Idx) : inTable C j = 1#1 := inside (h j)

/-- Whether every column word of a row is. -/
def rowInTable (C : IVec S1048576x1 32) : IVec S1048576 1 :=
  Host.reduce IntOp.andi (inTable C) (constantI S_ 1 1#1) reducesTo_S1048576x1_S1048576_d1 h_S_

theorem rowInTable_apply (C : IVec S1048576x1 32) (h : ∀ j, (C j).toNat < 256) (j : S1048576.Idx) : rowInTable C j = 1#1 :=
  Host.reduce_andi_one (inTable C) (constantI S_ 1 1#1) reducesTo_S1048576x1_S1048576_d1 h_S_ j rfl (inTable_apply C h)

/-- The rows of the table at the columns, not a number where a column is outside the table. -/
def taken (x : FVec Ideal S16384x256 .f32) (C : IVec S1048576x1 32) : FVec Ideal S1048576x256 .f32 :=
  select (broadcastInDim S1048576x256 ![0] bcast_S1048576_S1048576x256_0 (rowInTable C))
    (Host.gather gather_S16384x256_S1048576x1_S1048576x256_1_0_n_n_0_1_1256 x C)
    (broadcastInDim S1048576x256 ![] bcast_S_S1048576x256 (constant S_ .f32 0x7FC00000#32))

theorem taken_apply (x : FVec Ideal S16384x256 .f32) (C : IVec S1048576x1 32) (h : ∀ j, (C j).toNat < 256) (i : Fin 1048576) (k : Fin 256) :
    taken x C (ValueIdx.ix2 i k)
      = x (ValueIdx.ix2 (⟨(C (ValueIdx.ix2 i (0 : Fin 1))).toNat, (h _).trans (by norm_num)⟩ : Fin 16384) k) := by
  have hm : rowInTable C = fun _ => 1#1 := funext (rowInTable_apply C h)
  unfold taken
  rw [hm]
  show Scalar.select 1#1 (Host.gather gather_S16384x256_S1048576x1_S1048576x256_1_0_n_n_0_1_1256 x C (ValueIdx.ix2 i k)) _ = _
  rw [show ∀ u v : Ideal .f32, Scalar.select 1#1 u v = u from fun u v => if_pos rfl]
  exact Routing.gather_row gather_S16384x256_S1048576x1_S1048576x256_1_0_n_n_0_1_1256 rfl rfl rfl rfl rfl x C i k _
    ((BitVec.ofNat_toNat _ _).trans (BitVec.setWidth_eq _)).symm (by norm_num)

/-- The values, one per row, along the columns. -/
def spread (w : FVec Ideal S1048576 .f32) : FVec Ideal S1048576x256 .f32 :=
  broadcastInDim S1048576x256 ![0, 1] bcast_S1048576x1_S1048576x256_0_1 (broadcastInDim S1048576x1 ![0] bcast_S1048576_S1048576x1_0 w)

theorem spread_apply (w : FVec Ideal S1048576 .f32) (i : Fin 1048576) (k : Fin 256) : spread w (ValueIdx.ix2 i k) = w (ValueIdx.ix1 i) := by
  unfold spread
  refine (broadcastInDim_apply _ _ _ _ (ValueIdx.ix2 i (0 : Fin 1)) fun a => ?_).trans (broadcastInDim_apply _ _ _ _ _ fun a => ?_)
  · match a with
    | ⟨0, _⟩ => exact (if_neg (by norm_num : ¬(1048576 = 1))).symm
    | ⟨1, _⟩ => rfl
  · match a with
    | ⟨0, _⟩ => exact (if_neg (by norm_num : ¬(1048576 = 1))).symm

/-- The sums by rows. -/
def summed (R C : IVec S1048576x1 32) (x : FVec Ideal S16384x256 .f32) (w : FVec Ideal S1048576 .f32) : FVec Ideal S256x256 .f32 :=
  Host.scatterAdd scatter_S256x256_S1048576x1_S1048576x256_1_0_0_1 (broadcastInDim S256x256 ![] bcast_S_S256x256 (constant S_ .f32 0x00000000#32)) R
    (mulf (taken x C) (spread w))

theorem summed_apply (R C : IVec S1048576x1 32) (x : FVec Ideal S16384x256 .f32) (w : FVec Ideal S1048576 .f32)
    (hR : ∀ j, (R j).toNat < 256) (hC : ∀ j, (C j).toNat < 256) (r k : Fin 256) :
    (summed R C x w (ValueIdx.ix2 r k) : EReal) = ∑ i : Fin 1048576, if (R (ValueIdx.ix2 i (0 : Fin 1))).toNat = r.val then
      (x (ValueIdx.ix2 (⟨(C (ValueIdx.ix2 i (0 : Fin 1))).toNat, (hC _).trans (by norm_num)⟩ : Fin 16384) k) : EReal) * w (ValueIdx.ix1 i) else 0 := by
  unfold summed
  refine (scatter_rows_apply scatter_S256x256_S1048576x1_S1048576x256_1_0_0_1 rfl rfl rfl rfl _ R _ r k).trans ?_
  have hz : (broadcastInDim S256x256 ![] bcast_S_S256x256 (constant (F := Ideal) S_ .f32 0x00000000#32) (ValueIdx.ix2 r k) : EReal) = 0 := by
    show Ideal.ofBits .f32 0x00000000#32 = _
    simp [Ideal.ofBits, Ideal.ieee]
  rw [hz, zero_add]
  refine Finset.sum_congr rfl fun i _ => if_congr ?_ ?_ rfl
  · rw [BitVec.toInt_eq_toNat_of_lt (by have := hR (ValueIdx.ix2 i (0 : Fin 1)); omega)]
    exact Nat.cast_inj
  · exact (mulf_at _ _ _).trans (congrArg₂ (fun u v : EReal => u * v) (taken_apply x C hC i k) (spread_apply w i k))

/-- A matrix stacked, read at an index. -/
theorem stacked_apply (A : FVec Ideal S256x256 .f32) (p : S256x256x256.Idx) :
    broadcastInDim S256x256x256 ![0, 1, 2] bcast_S1x256x256_S256x256x256_0_1_2 (broadcastInDim S1x256x256 ![1, 2] bcast_S256x256_S1x256x256_1_2 A) p
      = A (ValueIdx.ix2 (p 1) (p 2)) := by
  refine (broadcastInDim_apply _ _ _ _ (ValueIdx.ix3 (0 : Fin 1) (p 1) (p 2)) fun a => ?_).trans (broadcastInDim_apply _ _ _ _ _ fun a => ?_)
  · match a with
    | ⟨0, _⟩ => rfl
    | ⟨1, _⟩ => exact (if_neg (by norm_num : ¬(256 = 1))).symm
    | ⟨2, _⟩ => exact (if_neg (by norm_num : ¬(256 = 1))).symm
  · match a with
    | ⟨0, _⟩ => exact (if_neg (by norm_num : ¬(256 = 1))).symm
    | ⟨1, _⟩ => exact (if_neg (by norm_num : ¬(256 = 1))).symm

/-- The bias spread over the result, read at an index. -/
theorem bias_apply (b : FVec Ideal S256 .f32) (p : S256x256x256.Idx) :
    broadcastInDim S256x256x256 ![0, 1, 2] bcast_S256x1x256_S256x256x256_0_1_2
      (broadcastInDim S256x1x256 ![0, 1, 2] bcast_S1x1x256_S256x1x256_0_1_2 (broadcastInDim S1x1x256 ![2] bcast_S256_S1x1x256_2 b)) p
      = b (ValueIdx.ix1 (p 2)) := by
  refine (broadcastInDim_apply _ _ _ _ (ValueIdx.ix3 (p 0) (0 : Fin 1) (p 2)) fun a => ?_).trans
    ((broadcastInDim_apply _ _ _ _ (ValueIdx.ix3 (0 : Fin 1) (0 : Fin 1) (p 2)) fun a => ?_).trans (broadcastInDim_apply _ _ _ _ _ fun a => ?_))
  · match a with
    | ⟨0, _⟩ => exact (if_neg (by norm_num : ¬(256 = 1))).symm
    | ⟨1, _⟩ => rfl
    | ⟨2, _⟩ => exact (if_neg (by norm_num : ¬(256 = 1))).symm
  · match a with
    | ⟨0, _⟩ => rfl
    | ⟨1, _⟩ => rfl
    | ⟨2, _⟩ => exact (if_neg (by norm_num : ¬(256 = 1))).symm
  · match a with
    | ⟨0, _⟩ => exact (if_neg (by norm_num : ¬(256 = 1))).symm

variable (m : (ℓ : Loc nD τ sig) → Buf (Elt Ideal) ℓ) (c : Dev nD)

/-- The four arguments. -/
abbrev xOf : FVec Ideal S16384x256 .f32 := m ((c.tc : Thread nD τ).loc main_arg0)
abbrev iOf : IVec S2x1048576 32 := m ((c.tc : Thread nD τ).loc main_arg1)
abbrev wOf : FVec Ideal S1048576 .f32 := m ((c.tc : Thread nD τ).loc main_arg2)
abbrev bOf : FVec Ideal S256 .f32 := m ((c.tc : Thread nD τ).loc main_arg3)

/-- The reference's result in these parts. -/
theorem res_eq : Value.res_main_v21 m c
    = addf (broadcastInDim S256x256x256 ![0, 1, 2] bcast_S1x256x256_S256x256x256_0_1_2 (broadcastInDim S1x256x256 ![1, 2] bcast_S256x256_S1x256x256_1_2
        (summed (asCol (wrapped (rowWords (iOf m c)) 256#32)) (asCol (wrapped (colWords (iOf m c)) 16384#32)) (xOf m c) (wOf m c))))
      (broadcastInDim S256x256x256 ![0, 1, 2] bcast_S256x1x256_S256x256x256_0_1_2
        (broadcastInDim S256x1x256 ![0, 1, 2] bcast_S1x1x256_S256x1x256_0_1_2 (broadcastInDim S1x1x256 ![2] bcast_S256_S1x1x256_2 (bOf m c)))) := rfl

/-- Under the index range, entry (a, r, k) of the reference's result is the sum over the nonzeros of row r of the table's entry at the nonzero's
    column and k times the nonzero's value, plus the bias at k. -/
theorem res_apply (hI : ∀ i, (iOf m c i).toNat < 256) (p : S256x256x256.Idx) :
    (Value.res_main_v21 m c p : EReal) = (∑ i : Fin 1048576, if (iOf m c (ValueIdx.ix2 (0 : Fin 2) i)).toNat = (p 1).val then
      (xOf m c (ValueIdx.ix2 (⟨(iOf m c (ValueIdx.ix2 (1 : Fin 2) i)).toNat, (hI _).trans (by norm_num)⟩ : Fin 16384) (p 2)) : EReal) * wOf m c (ValueIdx.ix1 i) else 0)
      + bOf m c (ValueIdx.ix1 (p 2)) := by
  have hr : ∀ i, (rowWords (iOf m c) i).toNat < 256 := fun i => hI _
  have hc : ∀ i, (colWords (iOf m c) i).toNat < 256 := fun i => hI _
  rw [res_eq, wrapped_eq _ _ hr, wrapped_eq _ _ hc]
  refine (addf_at _ _ _).trans ?_
  refine (congrArg₂ (fun u v : EReal => u + v)
    ((stacked_apply _ p).trans (summed_apply _ _ _ _ (asCol_lt _ hr) (asCol_lt _ hc) (p 1) (p 2))) (bias_apply _ p)).trans ?_
  simp only [asCol_apply, rowWords_apply, colWords_apply]

end Cert.Proof.Ref

end
-- ==== Proof.SumLemmas.lean ====
/- Sums of finite extended reals: summing by rows and columns first and multiplying by the table afterwards is multiplying first. -/
module

public import Mathlib.Data.EReal.Operations
public import Mathlib.Algebra.BigOperators.Ring.Finset
public import Mathlib.Algebra.BigOperators.Group.Finset.Sigma

@[expose] public section

namespace Cert.Proof

/-- A sum of reals, as an extended real, is the sum of the terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (a : ℝ) : (if p then (a : EReal) else 0) = ((if p then a else 0 : ℝ) : EReal) := by
  split <;> simp

/-- The identity over the reals. -/
theorem by_columns_real (row col : ℕ → ℕ) (v X : ℕ → ℝ) (N r : ℕ) (hcol : ∀ i, col i < 256) :
    ∑ k : Fin 256, (∑ i ∈ Finset.range N, if row i = r ∧ col i = k.val then v i else 0) * X k.val
      = ∑ i ∈ Finset.range N, if row i = r then X (col i) * v i else 0 := by
  simp only [Finset.sum_mul]
  rw [Finset.sum_comm]
  refine Finset.sum_congr rfl fun i _ => ?_
  rw [Finset.sum_eq_single (⟨col i, hcol i⟩ : Fin 256)]
  · by_cases h : row i = r <;> simp [h, mul_comm]
  · intro k _ hk
    rw [if_neg fun h => hk (Fin.ext h.2.symm), zero_mul]
  · exact fun h => absurd (Finset.mem_univ _) h

/-- The identity over the extended reals, of real values and a real table. -/
theorem by_columns (row col : ℕ → ℕ) (v X : ℕ → ℝ) (N r : ℕ) (hcol : ∀ i, col i < 256) :
    ∑ k : Fin 256, (∑ i ∈ Finset.range N, if row i = r ∧ col i = k.val then (v i : EReal) else 0) * (X k.val : EReal)
      = ∑ i ∈ Finset.range N, if row i = r then (X (col i) : EReal) * (v i : EReal) else 0 := by
  simp only [← EReal.coe_mul, coe_ite, ← coe_sum]
  rw [by_columns_real row col v X N r hcol]

end Cert.Proof

end
-- ==== Proof.Equation.lean ====
/- The kernel's result is the reference's over the extended reals: for indices below 256, a finite table and finite values. -/
module

public import proofs.«01_k».proof.Proof.KernelValue
public import proofs.«01_k».proof.Proof.RefValue
public import proofs.«01_k».proof.Proof.SumLemmas

@[expose] public section

noncomputable section

namespace Cert.Proof

open Idealize.ShloMosaic Cert.Proof.Acc

/-- The index of the index array at row `a` and position `i`, and of the values. -/
theorem ixI_eq (a : Fin 2) (i : Fin 1048576) : ixI a i.val = ValueIdx.ix2 a i := funext fun x => Fin.ext (by
  match x with
  | ⟨0, _⟩ => rfl
  | ⟨1, _⟩ => exact pos_val i.isLt)

theorem ixW_eq (i : Fin 1048576) : ixW i.val = ValueIdx.ix1 i := funext fun x => Fin.ext (by
  match x with
  | ⟨0, _⟩ => exact pos_val i.isLt)

/-- The two sums over the nonzeros agree, on arrays. -/
theorem sums_eq (I : IVec Cert.KernelIdeal.S2x1048576 32) (x : FVec Ideal Cert.KernelIdeal.S16384x256 .f32) (w : FVec Ideal Cert.KernelIdeal.S1048576 .f32)
    (hI : ∀ i, (I i).toNat < 256) (hx : ∀ i, (x i : EReal) ≠ ⊤ ∧ (x i : EReal) ≠ ⊥) (hw : ∀ i, (w i : EReal) ≠ ⊤ ∧ (w i : EReal) ≠ ⊥) (r c : Fin 256) :
    ∑ k : Fin 256, (∑ i ∈ Finset.range 1048576, term I w r k i) * (x (ValueIdx.ix2 (⟨k.val, k.isLt.trans (by norm_num)⟩ : Fin 16384) c) : EReal)
      = ∑ i : Fin 1048576, if (I (ValueIdx.ix2 (0 : Fin 2) i)).toNat = r.val then
          (x (ValueIdx.ix2 (⟨(I (ValueIdx.ix2 (1 : Fin 2) i)).toNat, (hI _).trans (by norm_num)⟩ : Fin 16384) c) : EReal) * w (ValueIdx.ix1 i) else 0 := by
  let v : ℕ → ℝ := fun i => (valN w i).toReal
  let X : ℕ → ℝ := fun k => if h : k < 16384 then (x (ValueIdx.ix2 (⟨k, h⟩ : Fin 16384) c) : EReal).toReal else 0
  have hv : ∀ i, (v i : EReal) = valN w i := fun i => EReal.coe_toReal (hw _).1 (hw _).2
  have hX : ∀ k (h : k < 16384), (X k : EReal) = x (ValueIdx.ix2 (⟨k, h⟩ : Fin 16384) c) := fun k h => by
    show ((if h : k < 16384 then (x (ValueIdx.ix2 (⟨k, h⟩ : Fin 16384) c) : EReal).toReal else 0 : ℝ) : EReal) = _
    rw [dif_pos h, EReal.coe_toReal (hx _).1 (hx _).2]
  have key := by_columns (rowN I) (colN I) v X 1048576 r.val fun i => hI _
  refine Eq.trans ?_ (key.trans ?_)
  · refine Finset.sum_congr rfl fun k _ => congrArg₂ (fun u v : EReal => u * v) (Finset.sum_congr rfl fun i _ => ?_) (hX _ _).symm
    unfold term
    rw [hv]
  · rw [Finset.sum_range]
    refine Finset.sum_congr rfl fun i _ => if_congr ?_ (congrArg₂ (fun u v : EReal => u * v) ?_ ?_) rfl
    · unfold rowN
      rw [ixI_eq]
    · have e : colN I i.val = (I (ValueIdx.ix2 (1 : Fin 2) i)).toNat := by
        unfold colN
        rw [ixI_eq]
      rw [e]
      exact hX _ _
    · rw [hv]
      unfold valN
      rw [ixW_eq]

end Cert.Proof

end
-- ==== Proof.Algebraic.lean ====
/- The claims under the precondition that also asks for finite inputs: the frames, and that kernel and reference compute the same. -/
module

public import proofs.«01_k».proof.Proof.Frames
public import proofs.«01_k».proof.Proof.PreFinite
public import proofs.«01_k».proof.Proof.Equation
public import proofs.«01_k».proof.Proof.Gen.Pre_in_range_finite

@[expose] public section

noncomputable section

namespace Cert.Proof

open Idealize.ShloMosaic Idealize.SL.Sem Cert.Proof.Acc

attribute [local instance] Cert.KernelIdeal.Gen.facts Cert.ReferenceIdeal.Gen.facts Cert.Pre_in_range_finite.Gen.facts

/-- The kernel over the extended reals terminates, keeps its arguments and leaves every counter at zero. -/
theorem frame_kernelIdeal_finite : Cert.quiescent_KernelIdeal_pre_in_range_finite := fun m ρ h =>
  (θ_run Cert.KernelIdeal.defs _ _).mono (fun _ h => ⟨fun c => (h.1 c).2, h.2⟩)
    (run_main (F := Ideal) m ρ fun d => (inRange_finite_of _ _ _ _ (h d)).1)

/-- So does the reference. -/
theorem frame_reference_finite : Cert.quiescent_ReferenceIdeal_pre_in_range_finite := fun m ρ _ =>
  (θ_run Cert.ReferenceIdeal.defs _ _).mono (fun r h => ⟨fun c => (h c).2, sem_eq_zero_of_no_sems (by decide) r.2⟩)
    (Cert.ReferenceIdeal.Value.run m ρ)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- On the same arguments, in range and finite, the two results are the same array. -/
theorem result_eq (hI : InRange (F := Ideal) (m (iLoc c))) (hx : Finite (s := Cert.KernelIdeal.S16384x256) (m (xLoc c)))
    (hw : Finite (s := Cert.KernelIdeal.S1048576) (m (wLoc c)))
    (h0 : Ref.xOf m' c = m (xLoc c)) (h1 : Ref.iOf m' c = m (iLoc c)) (h2 : Ref.wOf m' c = m (wLoc c)) (h3 : Ref.bOf m' c = m (bLoc c)) :
    Cert.ReferenceIdeal.Value.res_main_v21 m' c = resultOf m c := by
  funext p
  have hk := result_apply m c hI p
  have hI' : ∀ i, (Ref.iOf m' c i).toNat < 256 := fun i => by rw [h1]; exact hI i
  have hs := sums_eq (Ref.iOf m' c) (Ref.xOf m' c) (Ref.wOf m' c) hI' (fun i => by rw [h0]; exact hx i) (fun i => by rw [h2]; exact hw i) (p 1) (p 2)
  rw [← h0, ← h1, ← h2, ← h3] at hk
  refine (Ref.res_apply m' c hI' p).trans (Eq.trans ?_ hk.symm)
  exact congrArg (fun u : EReal => u + Ref.bOf m' c (ValueIdx.ix1 (p 2))) hs.symm

/-- Kernel and reference compute the same function over the extended reals. -/
theorem algebraic : Cert.algebraic_KernelIdeal_ReferenceIdeal_pre_in_range_finite := fun m g m' g' h hm =>
  ⟨fun c => resultOf m c,
    (θ_run Cert.KernelIdeal.defs _ _).mono (fun _ h c => h.1 c) (run_main (F := Ideal) m g fun d => (inRange_finite_of _ _ _ _ (h d)).1),
    (θ_run Cert.ReferenceIdeal.defs _ _).mono (fun _ hr c => ⟨(hr c).1.trans (by
      obtain ⟨hI, hx, hw⟩ := inRange_finite_of _ _ _ _ (h c)
      obtain ⟨h0, h1, h2, h3⟩ := hm c
      exact result_eq m m' c hI hx hw h0 h1 h2 h3), (hr c).2⟩) (Cert.ReferenceIdeal.Value.run m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Cert.Pre_in_range_finite.Gen.facts, frame_kernel, frame_kernelIdeal, frame_kernelIdeal_finite, frame_reference, frame_reference_finite, trivial, algebraic⟩

end Cert.Proof

end
